-- ==== Defs.lean ====
def Pre_Kernel [hPre_segments : Cert.Pre_segments.Facts] (m : (ℓ : Loc Cert.Kernel.nD Cert.Kernel.τ Cert.Kernel.sig) → Buf (Elt Bits) ℓ) : Prop :=
  ∀ c : Dev Cert.Kernel.nD,
    (Cert.Pre_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_segments [hPre_finite_segments : Cert.Pre_finite_segments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_segments [hPre_finite_segments : Cert.Pre_finite_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_segments : Cert.Pre_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_segments [hKernelIdeal : Cert.KernelIdeal.Facts] [hPre_finite_segments : Cert.Pre_finite_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_segments [hReferenceIdeal : Cert.ReferenceIdeal.Facts] [hPre_finite_segments : Cert.Pre_finite_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_segments [hKernelIdeal : Cert.KernelIdeal.Facts] [hReferenceIdeal : Cert.ReferenceIdeal.Facts] [hPre_finite_segments : Cert.Pre_finite_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_segments : Cert.Pre_segments.Facts) (hPre_finite_segments : Cert.Pre_finite_segments.Facts),
    quiescent_Kernel (hKernel := hKernel) (hPre_segments := hPre_segments)
    ∧ quiescent_KernelIdeal (hKernelIdeal := hKernelIdeal) (hPre_segments := hPre_segments)
    ∧ quiescent_KernelIdeal_pre_finite_segments (hKernelIdeal := hKernelIdeal) (hPre_finite_segments := hPre_finite_segments)
    ∧ quiescent_ReferenceIdeal (hReferenceIdeal := hReferenceIdeal)
    ∧ quiescent_ReferenceIdeal_pre_finite_segments (hReferenceIdeal := hReferenceIdeal) (hPre_finite_segments := hPre_finite_segments)
    ∧ preserves_Kernel_KernelIdeal
    ∧ algebraic_KernelIdeal_ReferenceIdeal_pre_finite_segments (hKernelIdeal := hKernelIdeal) (hReferenceIdeal := hReferenceIdeal) (hPre_finite_segments := hPre_finite_segments)
-- ==== Pre_finite_segments.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S512x512 : Shape := ⟨2, ![512, 512]⟩
abbrev S512 : Shape := ⟨1, ![512]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v15 : IVec S_ 1) (main_v16 : FVec F S1 .f32) : IVec S_ 1 :=
  let main_cst_5 : FVec F S_ .f32 := constant S_ .f32 0x7F800000#32
  let main_v17 : FVec F S1 .f32 := broadcastInDim S1 ![] bcast_S_S1 main_cst_5
  let main_v18 : IVec S1 1 := cmpf .olt main_v16 main_v17
  let main_c_6 : IVec S_ 1 := constantI S_ 1 1#1
  let main_v19 : IVec S_ 1 := (fun x v => Host.reduce IntOp.andi x v reducesTo_S1_S_d0 h_S_) main_v18 main_c_6
  let main_v20 : IVec S_ 1 := andi main_v15 main_v19
  let main_v21 : FVec F S512x512 .f32 := Host.absf main_arg4
  let main_cst_7 : FVec F S_ .f32 := constant S_ .f32 0x7F800000#32
  let main_v22 : FVec F S512x512 .f32 := broadcastInDim S512x512 ![] bcast_S_S512x512 main_cst_7
  let main_v23 : IVec S512x512 1 := cmpf .olt main_v21 main_v22
  let main_c_8 : IVec S_ 1 := constantI S_ 1 1#1
  let main_v24 : IVec S_ 1 := (fun x v => Host.reduce IntOp.andi x v reducesTo_S512x512_S_d0_1 h_S_) main_v23 main_c_8
  let main_v25 : IVec S_ 1 := andi main_v20 main_v24
  let main_v26 : FVec F S512 .f32 := Host.absf main_arg5
  let main_cst_9 : FVec F S_ .f32 := constant S_ .f32 0x7F800000#32
  let main_v27 : FVec F S512 .f32 := broadcastInDim S512 ![] bcast_S_S512 main_cst_9
  let main_v28 : IVec S512 1 := cmpf .olt main_v26 main_v27
  let main_c_10 : IVec S_ 1 := constantI S_ 1 1#1
  let main_v29 : IVec S_ 1 := (fun x v => Host.reduce IntOp.andi x v reducesTo_S512_S_d0 h_S_) main_v28 main_c_10
  let main_v30 : IVec S_ 1 := andi main_v25 main_v29
  main_v30

def fn {F : FTy → Type} [FloatOps F] (main_arg0 : FVec F S100000x512 .f32) (main_arg1 : IVec S100000 32) (main_arg2 : FVec F S512x1 .f32) (main_arg3 : FVec F S1 .f32) (main_arg4 : FVec F S512x512 .f32) (main_arg5 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 10000#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x512 .f32 := Host.absf main_arg0
  let main_cst : FVec F S_ .f32 := constant S_ .f32 0x7F800000#32
  let main_v7 : FVec F S100000x512 .f32 := broadcastInDim S100000x512 ![] bcast_S_S100000x512 main_cst
  let main_v8 : IVec S100000x512 1 := cmpf .olt main_v6 main_v7
  let main_c_2 : IVec S_ 1 := constantI S_ 1 1#1
  let main_v9 : IVec S_ 1 := (fun x v => Host.reduce IntOp.andi x v reducesTo_S100000x512_S_d0_1 h_S_) main_v8 main_c_2
  let main_v10 : IVec S_ 1 := andi main_v5 main_v9
  let main_v11 : FVec F S512x1 .f32 := Host.absf main_arg2
  let main_cst_3 : FVec F S_ .f32 := constant S_ .f32 0x7F800000#32
  let main_v12 : FVec F S512x1 .f32 := broadcastInDim S512x1 ![] bcast_S_S512x1 main_cst_3
  let main_v13 : IVec S512x1 1 := cmpf .olt main_v11 main_v12
  let main_c_4 : IVec S_ 1 := constantI S_ 1 1#1
  let main_v14 : IVec S_ 1 := (fun x v => Host.reduce IntOp.andi x v reducesTo_S512x1_S_d0_1 h_S_) main_v13 main_c_4
  let main_v15 : IVec S_ 1 := andi main_v10 main_v14
  let main_v16 : FVec F S1 .f32 := Host.absf main_arg3
  fn_part1 (F := F) main_arg4 main_arg5 main_v15 main_v16
-- ==== Pre_segments.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S512x512 : Shape := ⟨2, ![512, 512]⟩
abbrev S512 : Shape := ⟨1, ![512]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x512 .f32) (main_arg1 : IVec S100000 32) (main_arg2 : FVec F S512x1 .f32) (main_arg3 : FVec F S1 .f32) (main_arg4 : FVec F S512x512 .f32) (main_arg5 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 10000#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S512x512 : Shape := ⟨2, ![512, 512]⟩
abbrev S512 : Shape := ⟨1, ![512]⟩
abbrev S_ : Shape := ⟨0, ![]⟩
abbrev S100352x512 : Shape := ⟨2, ![100352, 512]⟩
abbrev S100352 : Shape := ⟨1, ![100352]⟩
abbrev S98x1x1024 : Shape := ⟨3, ![98, 1, 1024]⟩
abbrev S512x127 : Shape := ⟨2, ![512, 127]⟩
abbrev S512x640 : Shape := ⟨2, ![512, 640]⟩
abbrev S127 : Shape := ⟨1, ![127]⟩
abbrev S640 : Shape := ⟨1, ![640]⟩
abbrev S1x640 : Shape := ⟨2, ![1, 640]⟩
abbrev S10128x640 : Shape := ⟨2, ![10128, 640]⟩
abbrev S1x1x1024 : Shape := ⟨3, ![1, 1, 1024]⟩
abbrev S1024x512 : Shape := ⟨2, ![1024, 512]⟩
abbrev S1024x640 : Shape := ⟨2, ![1024, 640]⟩
abbrev S1024x1 : Shape := ⟨2, ![1024, 1]⟩
abbrev S1024x128 : Shape := ⟨2, ![1024, 128]⟩
abbrev S1x1024 : Shape := ⟨2, ![1, 1024]⟩
abbrev S1x1x1 : Shape := ⟨3, ![1, 1, 1]⟩
abbrev S128x1024 : Shape := ⟨2, ![128, 1024]⟩
abbrev S128x640 : Shape := ⟨2, ![128, 640]⟩
abbrev S10128x1 : Shape := ⟨2, ![10128, 1]⟩
abbrev S10128x512 : Shape := ⟨2, ![10128, 512]⟩
abbrev S10000x512 : Shape := ⟨2, ![10000, 512]⟩

abbrev nBuf : Space → Nat
  | .hbm => 24
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S512x512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S100352x512, .f32⟩
  | .hbm, ⟨9, _⟩ => ⟨S100352x512, .bf16⟩
  | .hbm, ⟨10, _⟩ => ⟨S_, .i32⟩
  | .hbm, ⟨11, _⟩ => ⟨S_, .i32⟩
  | .hbm, ⟨12, _⟩ => ⟨S100352, .i32⟩
  | .hbm, ⟨13, _⟩ => ⟨S98x1x1024, .i32⟩
  | .hbm, ⟨14, _⟩ => ⟨S_, .f32⟩
  | .hbm, ⟨15, _⟩ => ⟨S512x127, .f32⟩
  | .hbm, ⟨16, _⟩ => ⟨S512x640, .f32⟩
  | .hbm, ⟨17, _⟩ => ⟨S512x640, .bf16⟩
  | .hbm, ⟨18, _⟩ => ⟨S_, .f32⟩
  | .hbm, ⟨19, _⟩ => ⟨S127, .f32⟩
  | .hbm, ⟨20, _⟩ => ⟨S640, .f32⟩
  | .hbm, ⟨21, _⟩ => ⟨S1x640, .f32⟩
  | .hbm, ⟨22, _⟩ => ⟨S10128x640, .f32⟩
  | .hbm, ⟨23, _⟩ => ⟨S10000x512, .f32⟩
  | .local _ .vmem, ⟨0, _⟩ => ⟨S1x1x1024, .i32⟩
  | .local _ .vmem, ⟨1, _⟩ => ⟨S1x1x1024, .i32⟩
  | .local _ .vmem, ⟨2, _⟩ => ⟨S1024x512, .bf16⟩
  | .local _ .vmem, ⟨3, _⟩ => ⟨S1024x512, .bf16⟩
  | .local _ .vmem, ⟨4, _⟩ => ⟨S512x640, .bf16⟩
  | .local _ .vmem, ⟨5, _⟩ => ⟨S1x640, .f32⟩
  | .local _ .vmem, ⟨6, _⟩ => ⟨S10128x640, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![98], ![false]⟩

def k0_off1 (arg6 : BitVec 32) : Fin 2 → Nat :=
  let c0_i32_14 : BitVec 32 := 0#32
  let v41 : BitVec 1 := Scalar.cmpi .sgt arg6 c0_i32_14
  let v42 : BitVec 32 := Scalar.extui v41
  let c0_i32_15 : BitVec 32 := 0#32
  let v43 : BitVec 1 := Scalar.cmpi .slt arg6 c0_i32_15
  let v44 : BitVec 32 := Scalar.extui v43
  let v45 : BitVec 32 := Scalar.subi v42 v44
  let c8_i32 : BitVec 32 := 8#32
  let c0_i32_16 : BitVec 32 := 0#32
  let v46 : BitVec 1 := Scalar.cmpi .sgt c8_i32 c0_i32_16
  let v47 : BitVec 32 := Scalar.extui v46
  let c0_i32_17 : BitVec 32 := 0#32
  let v48 : BitVec 1 := Scalar.cmpi .slt c8_i32 c0_i32_17
  let v49 : BitVec 32 := Scalar.extui v48
  let v50 : BitVec 32 := Scalar.subi v47 v49
  let v51 : BitVec 1 := Scalar.cmpi .ne v45 v50
  let v52 : BitVec 32 := Scalar.remsi arg6 c8_i32
  let c0_i32_18 : BitVec 32 := 0#32
  let v53 : BitVec 1 := Scalar.cmpi .ne v52 c0_i32_18
  let v54 : BitVec 1 := Scalar.andi v51 v53
  let v40 : BitVec 32 := Scalar.divsi arg6 c8_i32
  let c1_i32 : BitVec 32 := 1#32
  let v55 : BitVec 32 := Scalar.subi v40 c1_i32
  let v56 : BitVec 32 := Scalar.select v54 v55 v40
  let c8_i32_19 : BitVec 32 := 8#32
  let v57 : BitVec 32 := Scalar.muli v56 c8_i32_19
  let v67 : Index := Scalar.indexCast v57
  let c0_21 : Index := 0#32
  ![v67.toNat, 0]

def k0_chk1 (arg6 : BitVec 32) : Prop :=
  (∀ a, (k0_off1 arg6) a + S128x640.size a ≤ S10128x640.size a)
theorem k0_off1_inb : ∀ (arg6 : BitVec 32) (k0_hw1 : k0_chk1 arg6), ∀ a, (k0_off1 arg6) a + S128x640.size a ≤ S10128x640.size a := fun arg6 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10128x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S512x512 : Shape := ⟨2, ![512, 512]⟩
abbrev S512 : Shape := ⟨1, ![512]⟩
abbrev S100000x1 : Shape := ⟨2, ![100000, 1]⟩
abbrev S1x1 : Shape := ⟨2, ![1, 1]⟩
abbrev S100000x10000 : Shape := ⟨2, ![100000, 10000]⟩
abbrev S_ : Shape := ⟨0, ![]⟩
abbrev S10000 : Shape := ⟨1, ![10000]⟩
abbrev S10000x1 : Shape := ⟨2, ![10000, 1]⟩
abbrev S1x512 : Shape := ⟨2, ![1, 512]⟩
abbrev S10000x512 : Shape := ⟨2, ![10000, 512]⟩

abbrev nBuf : Space → Nat
  | .hbm => 70
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S512x512, .f32⟩
  | .hbm, ⟨5, _⟩ => ⟨S512, .f32⟩
  | .hbm, ⟨6, _⟩ => ⟨S100000x1, .f32⟩
  | .hbm, ⟨7, _⟩ => ⟨S1x1, .f32⟩
  | .hbm, ⟨8, _⟩ => ⟨S100000x1, .f32⟩
  | .hbm, ⟨9, _⟩ => ⟨S100000x1, .f32⟩
  | .hbm, ⟨10, _⟩ => ⟨S100000x1, .i32⟩
  | .hbm, ⟨11, _⟩ => ⟨S100000x10000, .i32⟩
  | .hbm, ⟨12, _⟩ => ⟨S100000x10000, .i32⟩
  | .hbm, ⟨13, _⟩ => ⟨S100000x10000, .i1⟩
  | .hbm, ⟨14, _⟩ => ⟨S_, .f32⟩
  | .hbm, ⟨15, _⟩ => ⟨S_, .f32⟩
  | .hbm, ⟨16, _⟩ => ⟨S100000x10000, .f32⟩
  | .hbm, ⟨17, _⟩ => ⟨S100000x10000, .f32⟩
  | .hbm, ⟨18, _⟩ => ⟨S100000x10000, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .i1⟩
  | .hbm, ⟨25, _⟩ => ⟨S_, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S_, .i32⟩
  | .hbm, ⟨30, _⟩ => ⟨S100000, .i32⟩
  | .hbm, ⟨31, _⟩ => ⟨S100000, .i1⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000, .i32⟩
  | .hbm, ⟨36, _⟩ => ⟨S100000x1, .i32⟩
  | .hbm, ⟨37, _⟩ => ⟨S100000x1, .f32⟩
  | .hbm, ⟨38, _⟩ => ⟨S100000x1, .f32⟩
  | .hbm, ⟨39, _⟩ => ⟨S100000x1, .f32⟩
  | .hbm, ⟨40, _⟩ => ⟨S_, .f32⟩
  | .hbm, ⟨41, _⟩ => ⟨S10000x1, .f32⟩
  | .hbm, ⟨42, _⟩ => ⟨S100000x1, .i32⟩
  | .hbm, ⟨43, _⟩ => ⟨S10000x1, .f32⟩
  | .hbm, ⟨44, _⟩ => ⟨S10000x1, .f32⟩
  | .hbm, ⟨45, _⟩ => ⟨S10000x1, .f32⟩
  | .hbm, ⟨46, _⟩ => ⟨S_, .f32⟩
  | .hbm, ⟨47, _⟩ => ⟨S10000x1, .f32⟩
  | .hbm, ⟨48, _⟩ => ⟨S10000x1, .f32⟩
  | .hbm, ⟨49, _⟩ => ⟨S10000x1, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x1, .f32⟩
  | .hbm, ⟨59, _⟩ => ⟨S100000x1, .f32⟩
  | .hbm, ⟨60, _⟩ => ⟨S100000x512, .f32⟩
  | .hbm, ⟨61, _⟩ => ⟨S1x512, .f32⟩
  | .hbm, ⟨62, _⟩ => ⟨S100000x512, .f32⟩
  | .hbm, ⟨63, _⟩ => ⟨S100000x512, .f32⟩
  | .hbm, ⟨64, _⟩ => ⟨S100000x512, .f32⟩
  | .hbm, ⟨65, _⟩ => ⟨S100000x512, .f32⟩
  | .hbm, ⟨66, _⟩ => ⟨S_, .f32⟩
  | .hbm, ⟨67, _⟩ => ⟨S10000x512, .f32⟩
  | .hbm, ⟨68, _⟩ => ⟨S100000x1, .i32⟩
  | .hbm, ⟨69, _⟩ => ⟨S10000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.Range.lean ====
/-
  What the preconditions say: every segment is below the number of segments, and for the ideal programs every float
  argument is a real number.
-/
module

public import proofs.«01_k».proof.Defs
public import proofs.«01_k».proof.Proof.Gen.Pre_segments
public import proofs.«01_k».proof.Proof.Gen.Pre_finite_segments
public import Idealize.ShloMosaic.Lib.ReduceAll
public import Idealize.ShloMosaic.Lib.Affine
public import Idealize.ShloMosaic.Lib.WordCmp
public import Idealize.ShloMosaic.Lib.KernelVsHost

@[expose] public section

set_option maxRecDepth 16384

noncomputable section

namespace Cert.Proof.Range

open Idealize.ShloMosaic

/-- A word at least 0 and below 10000, both signed, is below 10000. -/
theorem lt_of_tests (x : BitVec 32) (h0 : IntOp.cmpi .sge x 0#32 = 1#1) (h1 : IntOp.cmpi .slt x 10000#32 = 1#1) : x.toNat < 10000 := by
  rw [IntOp.cmpi_sge] at h0
  rw [IntOp.cmpi_slt] at h1
  have e : (0#32 : BitVec 32).toInt = 0 := by decide
  have e' : (10000#32 : BitVec 32).toInt = 10000 := by decide
  rw [e] at h0; rw [e'] at h1
  rw [BitVec.toInt_eq_toNat_cond] at h0 h1
  split at h0 <;> split at h1 <;> omega

/-- `segments` holds only of segment rows below the number of segments. -/
theorem of_segments {F : FTy → Type} [FloatOps F] (a0 : FVec F Cert.Pre_segments.S100000x512 .f32) (a1 : IVec Cert.Pre_segments.S100000 32) (a2 : FVec F Cert.Pre_segments.S512x1 .f32)
    (a3 : FVec F Cert.Pre_segments.S1 .f32) (a4 : FVec F Cert.Pre_segments.S512x512 .f32) (a5 : FVec F Cert.Pre_segments.S512 .f32)
    (h : Cert.Pre_segments.fn (F := F) a0 a1 a2 a3 a4 a5 = fun _ => 1#1) (j : Cert.Pre_segments.S100000.Idx) : (a1 j).toNat < 10000 := by
  have e := congrFun h (fun a => a.elim0)
  have hj := Host.reduce_andi_all _ _ _ _ _ e j
  obtain ⟨h0, h1⟩ := IntOp.andi_eq_one.mp hj
  exact lt_of_tests _ h0 h1

/-- An extended real whose absolute value is below infinity is a real number. -/
theorem real_of_test (x : Ideal .f32) (h : FloatOps.cmpf .olt (FloatOps.hostAbsf x) (FloatOps.ofBits (F := Ideal) .f32 0x7F800000#32) = 1#1) :
    ∃ r : ℝ, (x : EReal) = r := by
  rw [← Ideal.xori_weird_eq_hostAbsf_olt_inf] at h
  have hn : ¬((x : EReal) = ⊤ ∨ (x : EReal) = ⊥) := fun hx => by
    have e : FloatOps.weird x = 1#1 := by
      show BitVec.ofBool (decide ((x : EReal) = ⊤ ∨ (x : EReal) = ⊥)) = 1#1
      rw [decide_eq_true hx]; rfl
    rw [e] at h
    exact absurd h (by decide)
  push Not at hn
  exact ⟨(x : EReal).toReal, (EReal.coe_toReal hn.1 hn.2).symm⟩

/-- `finite_segments` holds only of segment rows below the number of segments and of float arguments that are real numbers. -/
theorem of_finite_segments (a0 : FVec Ideal Cert.Pre_finite_segments.S100000x512 .f32) (a1 : IVec Cert.Pre_finite_segments.S100000 32)
    (a2 : FVec Ideal Cert.Pre_finite_segments.S512x1 .f32) (a3 : FVec Ideal Cert.Pre_finite_segments.S1 .f32)
    (a4 : FVec Ideal Cert.Pre_finite_segments.S512x512 .f32) (a5 : FVec Ideal Cert.Pre_finite_segments.S512 .f32)
    (h : Cert.Pre_finite_segments.fn (F := Ideal) a0 a1 a2 a3 a4 a5 = fun _ => 1#1) :
    (∀ j, ∃ r : ℝ, (a0 j : EReal) = r) ∧ (∀ j, (a1 j).toNat < 10000) ∧ (∀ j, ∃ r : ℝ, (a2 j : EReal) = r)
      ∧ (∀ j, ∃ r : ℝ, (a3 j : EReal) = r) ∧ (∀ j, ∃ r : ℝ, (a4 j : EReal) = r) ∧ (∀ j, ∃ r : ℝ, (a5 j : EReal) = r) := by
  have e := congrFun h (fun a => a.elim0)
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e1, e0⟩ := IntOp.andi_eq_one.mp e
  refine ⟨fun j => real_of_test _ (Host.reduce_andi_all _ _ _ _ _ e0 j), fun j => ?_, fun j => real_of_test _ (Host.reduce_andi_all _ _ _ _ _ e2 j),
    fun j => real_of_test _ (Host.reduce_andi_all _ _ _ _ _ e3 j), fun j => real_of_test _ (Host.reduce_andi_all _ _ _ _ _ e4 j),
    fun j => real_of_test _ (Host.reduce_andi_all _ _ _ _ _ e5 j)⟩
  obtain ⟨h0, h1⟩ := IntOp.andi_eq_one.mp (Host.reduce_andi_all _ _ _ _ _ e1 j)
  exact lt_of_tests _ h0 h1

end Cert.Proof.Range

end
-- ==== Proof.KI.Setup.lean ====
/-
  The launch set-up of the kernel: `@main` around its one region, what every buffer holds when the region is entered,
  the argument arrays' contents at the entry and at the end, and the contents of each input window's staging buffer.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat)

variable {F : FTy → Type} [FloatOps F]

variable (m : (ℓ : Loc nD τ sig) → Buf (Elt F) ℓ)

/-- The stretches of host operations before the region. -/
abbrev before : List (List (HloOp τ sig (Elt F))) := [hostOps0, hostOps0_1, hostOps0_2, hostOps0_3, hostOps0_4]

/-- The stretch of host operations after the region. -/
abbrev behind : List (List (HloOp τ sig (Elt F))) := [hostOps1]

/-- What core `c`'s buffers hold when the region is entered. -/
abbrev entry (c : Dev nD) : Valuation τ sig (Elt F) := StableHlo.after (List.flatten (before (F := F))) (fun b => m (c, b))

/-- The same, read at a reference of the TensorCore. -/
abbrev entryAt (c : Dev nD) (b : Ref sig .tc) : Buf (Elt F) ((c : Thread nD τ).loc b) := entry m c (Proc.devRef .tc b)

/-- The kernel's six argument arrays. -/
abbrev argRefs : List (Ref sig .tc) := [main_arg0, main_arg1, main_arg2, main_arg3, main_arg4, main_arg5]

/-- No host operation allocates. -/
theorem ops_fresh : (∀ ops ∈ (before : List (List (HloOp τ sig (Elt F)))), ops.Forall fun op => op.fresh = ∅)
    ∧ ∀ ops ∈ (behind : List (List (HloOp τ sig (Elt F)))), ops.Forall fun op => op.fresh = ∅ := by
  constructor <;> intro ops hops <;> simp only [List.mem_cons, List.mem_nil_iff, or_false] at hops
  · rcases hops with rfl | rfl | rfl | rfl | rfl <;> simp only [List.Forall] <;> repeat' constructor
  · subst hops; simp only [List.Forall]; repeat' constructor

set_option maxHeartbeats 800000 in
/-- `@main` is the host operations before the region, the region, and the host operations after it. -/
theorem main_around (𝒱₀ : Variants) : Pipeline.HMainK (Ix := Unit) (Name := ℕ) (U := UR sig nD τ) (Lvl := ℕ) (cfgs (F := F)) 0 (defs₀ (F := F)) 𝒱₀ m (main (F := F))
    (entryAt m) (fun _ => Pipeline.chain ((behind (F := F)).map StableHlo.seq)) :=
  Pipeline.hmain_around (cfgs (F := F)) 0 defs₀ 𝒱₀ m main (before (F := F)) (behind (F := F))
    (by simp only [List.Forall]; exact ⟨hostOps0_sub (F := F), hostOps0_1_sub, hostOps0_2_sub, hostOps0_3_sub, hostOps0_4_sub⟩)
    (List.forall_iff_forall_mem.mpr (ops_fresh (F := F)).1) main_chain

/-- The operations after the region touch only buffers the region leaves them. -/
theorem behind_sub : ∀ ops ∈ (behind : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem behind_fresh : ∀ ops ∈ (behind : List (List (HloOp τ sig (Elt F)))), ∀ op ∈ ops, op.fresh = ∅ :=
  fun ops hops => List.forall_iff_forall_mem.mp (ops_fresh.2 ops hops)

/-- Every operation after the region writes the result buffer only. -/
theorem behind_writes : ∀ op ∈ List.flatten (behind : List (List (HloOp τ sig (Elt F)))), op.writes = {Proc.devRef .tc main_v11} := by
  intro op hop
  simp only [hostOps1, List.flatten_cons, List.flatten_nil, List.append_nil, List.mem_cons, List.mem_nil_iff, or_false] at hop
  subst hop
  rfl

/-- A buffer other than the result buffer is not written after the region. -/
theorem behind_spares (b : Ref sig .tc) (hb : b ≠ main_v11) :
    ∀ op ∈ List.flatten (behind : List (List (HloOp τ sig (Elt F)))), Proc.devRef .tc b ∉ op.writes := by
  intro op hop
  rw [behind_writes op hop, Finset.mem_singleton]
  exact StableHlo.devRef_ne_of_ne hb

/-- The operations after the region write no array of the pipeline. -/
theorem behind_keeps : ∀ ops ∈ (behind : List (List (HloOp τ sig (Elt F)))), ∀ op ∈ ops,
    ∀ w, Proc.devRef .tc (Pipeline.arrRef spec0 w) ∉ op.writes := fun ops hops op hop w =>
  behind_spares _ ((by decide : ∀ w, Pipeline.arrRef spec0 w ≠ main_v11) w) op (List.mem_flatten.mpr ⟨ops, hops, hop⟩)

/-- No operation before the region writes an argument array. -/
theorem before_spares (b : Ref sig .tc) (hb : b ∈ argRefs) :
    ∀ op ∈ List.flatten (before : List (List (HloOp τ sig (Elt F)))), Proc.devRef .tc b ∉ op.writes :=
  List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes,
      StableHlo.nary_writes, Finset.mem_singleton]
    simp only [List.mem_cons, List.mem_nil_iff, or_false] at hb
    repeat' apply And.intro
    all_goals refine StableHlo.devRef_ne_of_ne ?_
    all_goals rcases hb with rfl | rfl | rfl | rfl | rfl | rfl <;> decide)

/-- The region finds an argument array as launched. -/
theorem entryAt_arg (c : Dev nD) (b : Ref sig .tc) (hb : b ∈ argRefs) : entryAt m c b = m ((c : Thread nD τ).loc b) :=
  StableHlo.after_of_forall_not_mem (b := Proc.devRef .tc b) _ _ (before_spares b hb)

/-- An argument array is as launched at the end. -/
theorem final_arg (dats : (p : Fin _) → (c : Dev nD) → Dat τ (Elt F) Unit ℕ (UR sig nD τ) ℕ (cfgs (F := F) p) c) (c : Dev nD)
    (b : Ref sig .tc) (hb : b ∈ argRefs) :
    Pipeline.afterTail₀ (cfgs (F := F)) dats 0 (entry m) behind c b = m ((c : Thread nD τ).loc b) := by
  unfold Pipeline.afterTail₀
  have hne : ∀ w, Pipeline.arrRef spec0 w ≠ b := by
    simp only [List.mem_cons, List.mem_nil_iff, or_false] at hb
    rcases hb with rfl | rfl | rfl | rfl | rfl | rfl <;> decide
  have hv : b ≠ main_v11 := by
    simp only [List.mem_cons, List.mem_nil_iff, or_false] at hb
    rcases hb with rfl | rfl | rfl | rfl | rfl | rfl <;> decide
  rw [StableHlo.after_of_forall_not_mem (b := Proc.devRef .tc b) _ _ (behind_spares b hv),
    Pipeline.withArrays_of_ne _ c (entry m c) _ b hne]
  exact entryAt_arg m c b hb

/-- Window `w`'s block at point `t`, read off its array as the region finds it. -/
def blockAt (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (entryAt m c (Pipeline.arrRef spec0 w))

section Inputs

variable {c : Dev nD} (dat : Dat τ (Elt F) Unit ℕ (UR sig nD τ) ℕ (cfg0 (F := F)) c)

/-- An input window's staging buffer holds its block at every point, if the body leaves the block in place. -/
theorem before_in0 (hA : dat.A 0 = entryAt m c (Pipeline.arrRef spec0 0)) (hafter : ∀ t, dat.after 0 t = blockAt m c 0 t)
    (t : Fin (cfg0 (F := F)).N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
@[inherit_doc before_in0]
theorem before_in1 (hA : dat.A 1 = entryAt m c (Pipeline.arrRef spec0 1)) (hafter : ∀ t, dat.after 1 t = blockAt m c 1 t)
    (t : Fin (cfg0 (F := F)).N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
@[inherit_doc before_in0]
theorem before_in2 (hA : dat.A 2 = entryAt m c (Pipeline.arrRef spec0 2)) (hafter : ∀ t, dat.after 2 t = blockAt m c 2 t)
    (t : Fin (cfg0 (F := F)).N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
@[inherit_doc before_in0]
theorem before_in3 (hA : dat.A 3 = entryAt m c (Pipeline.arrRef spec0 3)) (hafter : ∀ t, dat.after 3 t = blockAt m c 3 t)
    (t : Fin (cfg0 (F := F)).N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

end Inputs

end Cert.Proof.KI

end
-- ==== Proof.Words.lean ====
/-
  Facts about 32-bit words the kernel's loop needs: the aligned start of a window of accumulator rows, and the least
  and the greatest word of a block.
-/
module

public import Idealize.ShloMosaic.Lib.WordCmp
public import Idealize.ShloMosaic.Lib.WordArith
public import Idealize.ShloMosaic.Lib.Routing.Words
public import Idealize.ShloMosaic.Lib.SortNet.Extract
public import Idealize.ShloMosaic.PureOps

@[expose] public section

noncomputable section

namespace Cert.Proof.Words

open Idealize.ShloMosaic Idealize.ShloMosaic.WordCmp

/-- The sign of a word, as the kernel computes it. -/
abbrev sign (s : BitVec 32) : BitVec 32 :=
  Scalar.subi (Scalar.extui (Scalar.cmpi .sgt s 0#32)) (Scalar.extui (Scalar.cmpi .slt s 0#32))

/-- The greatest multiple of 8 not above `s`, as the kernel computes it (a floor division and a product). -/
def base (s : BitVec 32) : BitVec 32 :=
  Scalar.muli (Scalar.select (Scalar.andi (Scalar.cmpi .ne (sign s) (sign 8#32)) (Scalar.cmpi .ne (Scalar.remsi s 8#32) 0#32))
    (Scalar.subi (Scalar.divsi s 8#32) 1#32) (Scalar.divsi s 8#32)) 8#32

/-- The sign of a small positive word is one. -/
theorem sign_pos (n : ℕ) (h0 : 0 < n) (hn : n < 2 ^ 31) : sign (BitVec.ofNat 32 n) = 1#32 := by
  have h1 : Scalar.cmpi .sgt (BitVec.ofNat 32 n) 0#32 = 1#1 := by
    rw [scalar_cmpi_eq, show (0#32 : BitVec 32) = BitVec.ofNat 32 0 from rfl, cmpi_sgt_ofNat (by omega) (by omega)]
    simp [h0]
  have h2 : Scalar.cmpi .slt (BitVec.ofNat 32 n) 0#32 = 0#1 := by
    rw [scalar_cmpi_eq, show (0#32 : BitVec 32) = BitVec.ofNat 32 0 from rfl, cmpi_slt_ofNat (by omega) (by omega)]
    simp
  unfold sign
  rw [h1, h2]
  decide

/-- The kernel's aligned start is `8 * (s / 8)`. -/
theorem base_toNat (s : BitVec 32) (h : s.toNat < 2 ^ 31) : (base s).toNat = s.toNat / 8 * 8 := by
  obtain ⟨n, hn, rfl⟩ : ∃ n, n < 2 ^ 31 ∧ s = BitVec.ofNat 32 n := ⟨s.toNat, h, by simp⟩
  have hnn : (BitVec.ofNat 32 n).toNat = n := WordArith.toNat_ofNat_of_lt n (by omega)
  rw [hnn]
  have hdiv : Scalar.divsi (BitVec.ofNat 32 n) 8#32 = BitVec.ofNat 32 (n / 8) := Routing.divsi_word .scalar hn (by omega) (by omega)
  have hrem : Scalar.remsi (BitVec.ofNat 32 n) 8#32 = BitVec.ofNat 32 (n % 8) := Routing.remsi_word .scalar hn (by omega) (by omega)
  have hz : Scalar.andi (Scalar.cmpi .ne (sign (BitVec.ofNat 32 n)) (sign 8#32)) (Scalar.cmpi .ne (Scalar.remsi (BitVec.ofNat 32 n) 8#32) 0#32) = 0#1 := by
    rcases Nat.eq_zero_or_pos n with rfl | h0
    · decide
    · rw [sign_pos n h0 hn, sign_pos 8 (by omega) (by omega), show Scalar.cmpi .ne (1#32 : BitVec 32) 1#32 = 0#1 from by decide]
      show (0#1 : BitVec 1) &&& _ = 0#1
      simp
  unfold base
  rw [hz, hdiv]
  show (BitVec.ofNat 32 (n / 8) * 8#32).toNat = _
  rw [BitVec.toNat_mul, WordArith.toNat_ofNat_of_lt _ (by omega)]
  show n / 8 * 8 % 2 ^ 32 = _
  omega

/-! ## The least and the greatest word of a block -/

/-- A fold by the signed minimum is below every word, and is the start value or one of the words. -/
theorem fold_min {ι : Type} [DecidableEq ι] (S : Finset ι) (f : ι → BitVec 32) (b : BitVec 32) :
    (∀ i ∈ S, (S.fold IKind.minsi.op b f).toInt ≤ (f i).toInt)
      ∧ (S.fold IKind.minsi.op b f = b ∨ ∃ i ∈ S, S.fold IKind.minsi.op b f = f i) := by
  induction S using Finset.induction_on with
  | empty => exact ⟨fun i hi => absurd hi (Finset.notMem_empty i), .inl (Finset.fold_empty)⟩
  | insert a S ha ih =>
    rw [Finset.fold_insert ha]
    have e : (IKind.minsi.op (f a) (S.fold IKind.minsi.op b f)).toInt = min (f a).toInt (S.fold IKind.minsi.op b f).toInt :=
      SortNet.toInt_minsi _ _
    refine ⟨fun i hi => ?_, ?_⟩
    · rw [e]
      rcases Finset.mem_insert.mp hi with rfl | hi
      · exact min_le_left _ _
      · exact (min_le_right _ _).trans (ih.1 i hi)
    · rcases min_choice (f a).toInt (S.fold IKind.minsi.op b f).toInt with h | h <;> rw [h] at e
      · exact .inr ⟨a, Finset.mem_insert_self a S, BitVec.eq_of_toInt_eq e⟩
      · have e' := BitVec.eq_of_toInt_eq e
        rw [e']
        exact ih.2.imp id fun ⟨i, hi, h⟩ => ⟨i, Finset.mem_insert_of_mem hi, h⟩

/-- A fold by the signed maximum is above every word, and is the start value or one of the words. -/
theorem fold_max {ι : Type} [DecidableEq ι] (S : Finset ι) (f : ι → BitVec 32) (b : BitVec 32) :
    (∀ i ∈ S, (f i).toInt ≤ (S.fold IKind.maxsi.op b f).toInt)
      ∧ (S.fold IKind.maxsi.op b f = b ∨ ∃ i ∈ S, S.fold IKind.maxsi.op b f = f i) := by
  induction S using Finset.induction_on with
  | empty => exact ⟨fun i hi => absurd hi (Finset.notMem_empty i), .inl (Finset.fold_empty)⟩
  | insert a S ha ih =>
    rw [Finset.fold_insert ha]
    have e : (IKind.maxsi.op (f a) (S.fold IKind.maxsi.op b f)).toInt = max (f a).toInt (S.fold IKind.maxsi.op b f).toInt :=
      SortNet.toInt_maxsi _ _
    refine ⟨fun i hi => ?_, ?_⟩
    · rw [e]
      rcases Finset.mem_insert.mp hi with rfl | hi
      · exact le_max_left _ _
      · exact (ih.1 i hi).trans (le_max_right _ _)
    · rcases max_choice (f a).toInt (S.fold IKind.maxsi.op b f).toInt with h | h <;> rw [h] at e
      · exact .inr ⟨a, Finset.mem_insert_self a S, BitVec.eq_of_toInt_eq e⟩
      · have e' := BitVec.eq_of_toInt_eq e
        rw [e']
        exact ih.2.imp id fun ⟨i, hi, h⟩ => ⟨i, Finset.mem_insert_of_mem hi, h⟩

variable {s t : Shape} {axes : List (Fin s.rank)}

/-- The minimum of all the words of a block is the word at some index, and below every word. -/
theorem min_all (v : IVec s 32) (b : BitVec 32) (hb : b = IKind.minsi.neutral) (h : s.Reduces axes t) (j : t.Idx) (ht : ∀ j', j' = j)
    (i₀ : s.Idx) :
    (∃ i, multiReductionI .minsi axes t v b h hb j = v i) ∧ ∀ i, (multiReductionI .minsi axes t v b h hb j).toInt ≤ (v i).toInt := by
  classical
  rw [multiReductionI_eq_fold]
  have hf := fold_min (Finset.univ.filter fun i => h.drop i = j) v b
  have hall : ∀ i, i ∈ Finset.univ.filter fun i => h.drop i = j := fun i => Finset.mem_filter.mpr ⟨Finset.mem_univ i, ht _⟩
  refine ⟨?_, fun i => hf.1 i (hall i)⟩
  rcases hf.2 with e | ⟨i, _, e⟩
  · refine ⟨i₀, BitVec.eq_of_toInt_eq (le_antisymm (hf.1 i₀ (hall i₀)) ?_)⟩
    rw [e, hb]
    have := BitVec.toInt_lt (x := v i₀)
    show (v i₀).toInt ≤ (2147483647#32 : BitVec 32).toInt
    rw [show (2147483647#32 : BitVec 32).toInt = 2147483647 from by decide]
    omega
  · exact ⟨i, e⟩

/-- The maximum of all the words of a block is above every word, and is the word at some index. -/
theorem max_all (v : IVec s 32) (b : BitVec 32) (hb : b = IKind.maxsi.neutral) (h : s.Reduces axes t) (j : t.Idx) (ht : ∀ j', j' = j)
    (i₀ : s.Idx) :
    (∃ i, multiReductionI .maxsi axes t v b h hb j = v i) ∧ ∀ i, (v i).toInt ≤ (multiReductionI .maxsi axes t v b h hb j).toInt := by
  classical
  rw [multiReductionI_eq_fold]
  have hf := fold_max (Finset.univ.filter fun i => h.drop i = j) v b
  have hall : ∀ i, i ∈ Finset.univ.filter fun i => h.drop i = j := fun i => Finset.mem_filter.mpr ⟨Finset.mem_univ i, ht _⟩
  refine ⟨?_, fun i => hf.1 i (hall i)⟩
  rcases hf.2 with e | ⟨i, _, e⟩
  · refine ⟨i₀, BitVec.eq_of_toInt_eq (le_antisymm ?_ (hf.1 i₀ (hall i₀)))⟩
    rw [e, hb]
    have := BitVec.le_toInt (v i₀)
    show (2147483648#32 : BitVec 32).toInt ≤ (v i₀).toInt
    rw [show (2147483648#32 : BitVec 32).toInt = -2147483648 from by decide]
    omega
  · exact ⟨i, e⟩

/-- A word's integer is its natural number below `2 ^ 31`. -/
theorem toInt_small (x : BitVec 32) (h : x.toNat < 2 ^ 31) : x.toInt = (x.toNat : Int) := toInt_eq_toNat_of_lt_half h

/-- The signed test `x ≤ y` on small words. -/
theorem sle_iff (x y : BitVec 32) (hx : x.toNat < 2 ^ 31) (hy : y.toNat < 2 ^ 31) : Scalar.cmpi .sle x y = 1#1 ↔ x.toNat ≤ y.toNat := by
  rw [scalar_cmpi_eq, cmpi_sle_eq, toInt_small x hx, toInt_small y hy]
  rw [ofBool_decide_eq_one_iff]
  omega

end Cert.Proof.Words

end
-- ==== Proof.KI.Loop.lean ====
/-
  The loop over the segments of one block of rows: what one trip does to the accumulator, what the whole loop leaves,
  and that the loop's label meets this specification.
-/
module

public import proofs.«01_k».proof.Proof.Gen.KernelIdeal.Skeleton
public import proofs.«01_k».proof.Proof.KI.Setup
public import proofs.«01_k».proof.Proof.Words
public import Idealize.ShloMosaic.Lib.VecWindow
public import Idealize.ShloMosaic.Lib.Pointwise.Reshape

@[expose] public section

set_option maxRecDepth 16384

noncomputable section

namespace Cert.Proof.KI

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop variants are natural numbers. -/
abbrev 𝒱₀ : Variants := Variants.nat

/-- The contents of the accumulator. -/
abbrev Acc (F : FTy → Type) : Type := S10128x640.Idx → F .f32

/-- One trip from the start `s`: the window of accumulator rows at the aligned start takes the kernel's sum. -/
def trip (v27 : IVec S1x1024 32) (v25 : FVec F S1024x640 .bf16) (s : BitVec 32) (h : k0_chk1 s) (X : Acc F) : Acc F :=
  VecWindow.put X (k0_off1 s) S128x640.size (k0_pay2 v27 v25 s (VecWindow.window X (k0_off1 s) S128x640.size h))

/-- The start of the next trip, as the kernel computes it. -/
def nextStart (v27 : IVec S1x1024 32) (s : BitVec 32) : BitVec 32 := extractAt ![0, 0, 0] (k0_pay3 v27 s) inpos_S1x1x1_p0_0_0

/-- The accumulator after at most `k` trips from the start `s`, while the start is not above `last`. -/
def loop (v27 : IVec S1x1024 32) (v25 : FVec F S1024x640 .bf16) (last : BitVec 32) : ℕ → BitVec 32 → Acc F → Acc F
  | 0, _, X => X
  | k + 1, s, X =>
    if Scalar.cmpi .sle s last = 1#1 then
      if h : k0_chk1 s then loop v27 v25 last k (nextStart v27 s) (trip v27 v25 s h X) else X
    else X

/-! ## The words of a trip -/

/-- A trip's window starts at the aligned start, and spans every column. -/
theorem off_eq (s : BitVec 32) : k0_off1 s = ![(base s).toNat, 0] := rfl

/-- The window of a start not above 10000 lies inside the accumulator. -/
theorem chk_of_le (s : BitVec 32) (h : s.toNat ≤ 10000) : k0_chk1 s := by
  have hb := base_toNat s (by omega)
  unfold k0_chk1
  rw [off_eq]
  intro a
  fin_cases a
  · show (base s).toNat + 128 ≤ 10128
    omega
  · show 0 + 640 ≤ 640
    omega

/-- The words the next start is the least of: a row's segment where it is past the window, 10128 elsewhere. -/
abbrev later (v27 : IVec S1x1024 32) (s : BitVec 32) (j : S1x1024.Idx) : BitVec 32 :=
  Scalar.select (Scalar.cmpi .sge (v27 j) (Scalar.addi (base s) 128#32)) (v27 j) 10128#32

/-- `later`, in natural numbers. -/
theorem later_toNat (v27 : IVec S1x1024 32) (s : BitVec 32) (hv : ∀ j, (v27 j).toNat ≤ 10000) (hs : s.toNat ≤ 10000) (j : S1x1024.Idx) :
    (later v27 s j).toNat = if s.toNat / 8 * 8 + 128 ≤ (v27 j).toNat then (v27 j).toNat else 10128 := by
  have hb := base_toNat s (by omega)
  have ha : (Scalar.addi (base s) 128#32).toNat = s.toNat / 8 * 8 + 128 := by
    show (base s + 128#32).toNat = _
    rw [BitVec.toNat_add, hb]
    show (s.toNat / 8 * 8 + 128) % 2 ^ 32 = _
    omega
  have hj := hv j
  have hc : Scalar.cmpi .sge (v27 j) (Scalar.addi (base s) 128#32) = BitVec.ofBool (decide (s.toNat / 8 * 8 + 128 ≤ (v27 j).toNat)) := by
    rw [WordCmp.scalar_cmpi_eq, WordCmp.cmpi_sge_eq, toInt_small (v27 j) (by omega), toInt_small (Scalar.addi (base s) 128#32) (by rw [ha]; omega), ha]
    congr 2
    exact propext Nat.cast_le
  unfold later
  rw [hc]
  by_cases h : s.toNat / 8 * 8 + 128 ≤ (v27 j).toNat
  · rw [if_pos h, decide_eq_true h]; rfl
  · rw [if_neg h, decide_eq_false h]; rfl

/-- The next start: past the window, at most 10128, not above any later row's segment, and 10128 or a row's segment. -/
theorem nextStart_facts (v27 : IVec S1x1024 32) (s : BitVec 32) (hv : ∀ j, (v27 j).toNat ≤ 10000) (hs : s.toNat ≤ 10000) :
    s.toNat / 8 * 8 + 128 ≤ (nextStart v27 s).toNat ∧ (nextStart v27 s).toNat ≤ 10128
      ∧ ∀ j, s.toNat / 8 * 8 + 128 ≤ (v27 j).toNat → (nextStart v27 s).toNat ≤ (v27 j).toNat := by
  have hm := min_all (shapeCast S1x1x1024 (later v27 s) shapeCasts_S1x1024_S1x1x1024) 2147483647#32 rfl reduces_S1x1x1024_S1
    (Shape.reshapeEquiv shapeCasts_S1_S1x1x1 (fun a => ⟨![0, 0, 0] a, inpos_S1x1x1_p0_0_0 a⟩))
    (fun j' => funext fun a => by
      have e : ∀ x y : Fin 1, x = y := by decide
      fin_cases a; exact e _ _) (fun a => ⟨0, by fin_cases a <;> decide⟩)
  change (∃ i, nextStart v27 s = _) ∧ ∀ i, (nextStart v27 s).toInt ≤ _ at hm
  have hl := later_toNat v27 s hv hs
  have hsmall : ∀ j, (later v27 s j).toNat ≤ 10128 := fun j => by
    have := hv j
    rw [hl]; split <;> omega
  obtain ⟨⟨i, hi⟩, hle⟩ := hm
  have hi' : nextStart v27 s = later v27 s (Shape.reshapeEquiv shapeCasts_S1x1024_S1x1x1024 i) := hi
  have hn : (nextStart v27 s).toNat ≤ 10128 := by rw [hi']; exact hsmall _
  refine ⟨?_, hn, fun j hj => ?_⟩
  · rw [hi', hl]
    split <;> omega
  · have h := hle ((Shape.reshapeEquiv shapeCasts_S1x1024_S1x1x1024).symm j)
    have e : shapeCast S1x1x1024 (later v27 s) shapeCasts_S1x1024_S1x1x1024 ((Shape.reshapeEquiv shapeCasts_S1x1024_S1x1x1024).symm j)
        = later v27 s j := congrArg (later v27 s) (Equiv.apply_symm_apply _ _)
    rw [e, toInt_small _ (by omega), toInt_small _ (by have := hsmall j; omega), hl, if_pos hj] at h
    exact_mod_cast h

/-! ## The loop's label -/

section Label

variable (c : Dev nD) (i : grid0.Coords) (v27 : IVec S1x1024 32) (v25 : FVec F S1024x640 .bf16) (last : BitVec 32)
  (M : Memref sig .tc .vmem S10128x640 .f32) (hM : M.IsWhole)

/-- The loop's specification with at most `k` trips from `s`: the accumulator at `X` becomes `loop … k s X`. -/
def spec (k : ℕ) (s : BitVec 32) (X : Acc F) : sWPT 𝕄 (BitVec 32) := do
  sWPT.consume (owns (c : Thread nD τ) M fullShare X)
  let r ← sWPT.arbitrary
  sWPT.produce (owns (c : Thread nD τ) M fullShare (loop v27 v25 last k s X))
  pure r

theorem spec_apply (k : ℕ) (s : BitVec 32) (X : Acc F) (K : BitVec 32 → sProp 𝕄) :
    spec c v27 v25 last M k s X K
      = iprop(owns (c : Thread nD τ) M fullShare X ∗ ∀ r : BitVec 32, (owns (c : Thread nD τ) M fullShare (loop v27 v25 last k s X) -∗ K r)) := rfl

/-- Reading the accumulator after a store to a rectangle of it. -/
theorem read_store {off size : Fin 2 → ℕ} (inb : ∀ a, off a + size a ≤ S10128x640.size a) (f : M.view.ty.Contents (Elt F))
    (w : (Rect.unit (s := S10128x640) off size inb).shape.Idx → Elt F .f32) :
    M.view.read (Elt F) ((M.access (Rect.unit off size inb)).write (Elt F) f w Finset.univ)
      = VecWindow.put (M.view.read (Elt F) f) off size w :=
  View.read_writes_cons_put M.view f inb w [] rfl

/-- The rectangle of the accumulator a trip reads and writes. -/
abbrev win (s : BitVec 32) (h : k0_chk1 s) : Rect S10128x640 := Rect.unit (s := S10128x640) (k0_off1 s) S128x640.size (k0_off1_inb s h)

/-- The loop's label meets its specification. -/
theorem spec_le (E : Set ℕ) (hv : ∀ j, (v27 j).toNat ≤ 10000) (hl : last.toNat ≤ 10000) :
    ∀ (k : ℕ) (s : BitVec 32), s.toNat ≤ 10128 → 10129 ≤ s.toNat + k → ∀ X K, spec c v27 v25 last M k s X K
      ⊢ wp frame (wpE (defs₀ (F := F)) 𝒱₀ (c : Thread nD τ) (some k)) E
          (defs₀ (F := F) .tc 1 ⟨i, last, v27, v25, M, hM, s⟩) K := by
  intro k
  induction k with
  | zero => intro s h1 h2; omega
  | succ k ih =>
    intro s h1 h2 X K
    rw [spec_apply]
    show _ ⊢ wp frame (wpE (defs₀ (F := F)) 𝒱₀ (c : Thread nD τ) (some (k + 1))) E (cc0_while1 i last v27 v25 M hM s) K
    simp only [cc0_while1_eq_skeleton]; unfold cc0_while1_skel
    by_cases htest : Scalar.cmpi .sle s last = 1#1
    · have hs : s.toNat ≤ 10000 := le_trans ((sle_iff s last (by omega) (by omega)).mp htest) hl
      have hchk : k0_chk1 s := chk_of_le s hs
      obtain ⟨hn1, hn2, -⟩ := nextStart_facts v27 s hv hs
      have hloop : loop v27 v25 last (k + 1) s X = loop v27 v25 last k (nextStart v27 s) (trip v27 v25 s hchk X) := by
        rw [loop, if_pos htest, dif_pos hchk]
      simp only [htest, ↓reduceIte, Prog.lift, Prog.bind_op, Prog.bind_ret, Prog.pure_eq_ret]
      unfold owns
      iintro ⟨⟨%f, %hf, H⟩, Hk⟩
      iapply (wp_assume 𝒱₀ (c : Thread nD τ) (some (k + 1)) E hchk)
      iapply (wp_load_rect 𝒱₀ (c : Thread nD τ) (some (k + 1)) E (m := M) (r := win s hchk) (View.set_slice_subset _ _)) $$ H; iintro H
      iapply (wp_load_rect 𝒱₀ (c : Thread nD τ) (some (k + 1)) E (m := M) (r := win s hchk) (View.set_slice_subset _ _)) $$ H; iintro H
      iapply (wp_store 𝒱₀ (c : Thread nD τ) (some (k + 1)) E (m := M) (r := win s hchk) (Mk := Finset.univ) (View.set_slice_subset _ _)) $$ H; iintro H
      have hS := ih (nextStart v27 s) hn2 (by omega) (trip v27 v25 s hchk X)
      unfold nextStart at hS
      iapply (wp_call_spec 𝒱₀ (c : Thread nD τ) (some (k + 1)) E _ k (fun u hu => by cases hu; exact Nat.lt_succ_self k) hS)
      rw [spec_apply, hloop]
      unfold owns
      isplitl [H]
      · iexists _; isplitr; swap; · iexact H
        ipureintro
        refine (read_store M (k0_off1_inb s hchk) f _).trans ?_
        unfold trip
        rw [← hf]
        rfl
      iintro %r H
      rw [wp_ret]; imodintro
      iapply Hk
      iexact H
    · have hloop : loop v27 v25 last (k + 1) s X = X := by rw [loop, if_neg htest]
      simp only [htest, ↓reduceIte, Prog.pure_eq_ret]
      rw [hloop]
      iintro ⟨H, Hk⟩
      rw [wp_ret]; imodintro
      iapply Hk
      iexact H

end Label

end Cert.Proof.KI

end
-- ==== Proof.KI.Point.lean ====
/-
  The kernel's body at one point of the grid: from any accumulator it leaves the block's rows added, the accumulator
  zeroed first at the first point and normalised last at the last point.
-/
module

public import proofs.«01_k».proof.Proof.KI.Loop

@[expose] public section

set_option maxRecDepth 16384

noncomputable section

namespace Cert.Proof.KI

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What a point does to the accumulator -/

/-- The least segment of a block's rows: the loop's first start. -/
def firstOf (x0 : Vec F S1x1x1024 .i32) : BitVec 32 := extractAt ![0, 0, 0] (k0_pay8 (F := F) x0) inpos_S1x1x1_p0_0_0
/-- The greatest segment of a block's rows: the loop's last start. -/
def lastOf (x0 : Vec F S1x1x1024 .i32) : BitVec 32 := extractAt ![0, 0, 0] (k0_pay7 (F := F) x0) inpos_S1x1x1_p0_0_0

/-- A bound on the loop's trips: one more than the segments the accumulator has rows for. -/
irreducible_def trips : ℕ := 10129

/-- The whole loop over a block. -/
def pass (x0 : Vec F S1x1x1024 .i32) (x1 : Vec F S1024x512 .bf16) (x2 : Vec F S512x640 .bf16) (x3 : Vec F S1x640 .f32) (X : Acc F) : Acc F :=
  loop (k0_pay6 (F := F) x0) (k0_pay5 x1 x2 x3) (lastOf x0) trips (firstOf x0) X

/-- The first 512 columns divided by the column 512 plus the guard. -/
def norm (X : Acc F) : Acc F :=
  VecWindow.put X ![0, 0] S10128x512.size (k0_pay1 (VecWindow.window X ![0, 512] S10128x1.size inb_S10128x640_S10128x1_0_512)
    (VecWindow.window X ![0, 0] S10128x512.size inb_S10128x640_S10128x512_0_0))

/-- The body's test for the first point. -/
abbrev isFirst (i : grid0.Coords) : Prop := Scalar.cmpi .ne (Scalar.extui (Scalar.cmpi .eq (BitVec.ofNat 32 (i 0).val) 0#32) : BitVec 32) 0#32 = 1#1
/-- The body's test for the last point. -/
abbrev isLast (i : grid0.Coords) : Prop := Scalar.cmpi .ne (Scalar.extui (Scalar.cmpi .eq (BitVec.ofNat 32 (i 0).val) 97#32) : BitVec 32) 0#32 = 1#1

/-- The accumulator after the body. -/
def step (i : grid0.Coords) (x0 : Vec F S1x1x1024 .i32) (x1 : Vec F S1024x512 .bf16) (x2 : Vec F S512x640 .bf16) (x3 : Vec F S1x640 .f32)
    (X : Acc F) : Acc F :=
  if isLast i then norm (pass x0 x1 x2 x3 (if isFirst i then k0_pay4 else X)) else pass x0 x1 x2 x3 (if isFirst i then k0_pay4 else X)

/-- The start and the end of the loop are segments of rows. -/
theorem ends_le (x0 : Vec F S1x1x1024 .i32) (hx : ∀ j, (x0 j : BitVec 32).toNat ≤ 10000) :
    (firstOf (F := F) x0).toNat ≤ 10000 ∧ (lastOf (F := F) x0).toNat ≤ 10000 ∧ ∀ j, (k0_pay6 (F := F) x0 j).toNat ≤ 10000 := by
  have h6 : ∀ j, (k0_pay6 (F := F) x0 j).toNat ≤ 10000 := fun j => hx _
  have hz : S1x1x1024.Idx := fun a => ⟨0, by fin_cases a <;> decide⟩
  have hone : ∀ j' : S1.Idx, j' = Shape.reshapeEquiv shapeCasts_S1_S1x1x1 (fun a => ⟨![0, 0, 0] a, inpos_S1x1x1_p0_0_0 a⟩) :=
    fun j' => funext fun a => by
      have e : ∀ x y : Fin 1, x = y := by decide
      fin_cases a; exact e _ _
  have hmin := min_all (shapeCast S1x1x1024 (k0_pay6 (F := F) x0) shapeCasts_S1x1024_S1x1x1024) 2147483647#32 rfl reduces_S1x1x1024_S1 _ hone hz
  have hmax := max_all (shapeCast S1x1x1024 (k0_pay6 (F := F) x0) shapeCasts_S1x1024_S1x1x1024) 2147483648#32 rfl reduces_S1x1x1024_S1 _ hone hz
  obtain ⟨⟨a, ha⟩, -⟩ := hmin
  obtain ⟨⟨b, hb⟩, -⟩ := hmax
  refine ⟨?_, ?_, h6⟩
  · have e : firstOf (F := F) x0 = k0_pay6 (F := F) x0 (Shape.reshapeEquiv shapeCasts_S1x1024_S1x1x1024 a) := ha
    rw [e]; exact h6 _
  · have e : lastOf (F := F) x0 = k0_pay6 (F := F) x0 (Shape.reshapeEquiv shapeCasts_S1x1024_S1x1x1024 b) := hb
    rw [e]; exact h6 _

/-! ## The body -/

section Body

variable (c : Dev nD) (i : grid0.Coords)
  (A1 : Memref sig .tc .vmem S1x1x1024 .i32) (h1 : A1.IsWhole) (A2 : Memref sig .tc .vmem S1024x512 .bf16) (h2 : A2.IsWhole)
  (A3 : Memref sig .tc .vmem S512x640 .bf16) (h3 : A3.IsWhole) (A4 : Memref sig .tc .vmem S1x640 .f32) (h4 : A4.IsWhole)
  (A5 : Memref sig .tc .vmem S10128x640 .f32) (h5 : A5.IsWhole)

/-- A load of all of a buffer, a rectangle at zero offsets of its own sizes, reads the buffer. -/
theorem read_all {s : Shape} {e : EltTy} (A : Memref sig .tc .vmem s e) {off : Fin s.rank → ℕ} (inb : ∀ a, off a + s.size a ≤ s.size a)
    (f : A.view.ty.Contents (Elt F)) : (A.access (Rect.unit off s.size inb)).read (Elt F) f = A.view.read (Elt F) f :=
  View.readAt_full A.view f inb

/-- A load of all of an owned buffer. -/
theorem load_all {s : Shape} {e : EltTy} {α : Type} (A : Memref sig .tc .vmem s e) {off : Fin s.rank → ℕ} (inb : ∀ a, off a + s.size a ≤ s.size a)
    (hl : A.view.LoadsAt (Rect.unit off s.size inb).toLoadRect) (x : s.Idx → Elt F e)
    (k : (s.Idx → Elt F e) → Prog (TpuEff nD τ sig (Elt F) (Λ₀ F) .tc) α) (K : α → sProp 𝕄) :
    iprop(owns (c : Thread nD τ) A fullShare x ∗ (owns (c : Thread nD τ) A fullShare x -∗ wp frame (wpE (defs₀ (F := F)) 𝒱₀ c none) Set.univ (k x) K))
      ⊢ wp frame (wpE (defs₀ (F := F)) 𝒱₀ c none) Set.univ (.op (.load A (Rect.unit off s.size inb).toLoadRect hl) k) K := by
  unfold owns
  iintro ⟨⟨%f, %hf, H⟩, Hk⟩
  iapply (wp_load_rect 𝒱₀ (c : Thread nD τ) none Set.univ (m := A) (r := Rect.unit off s.size inb) (View.set_slice_subset _ _)) $$ H; iintro H
  rw [read_all A inb f, hf]
  iapply Hk
  iexists f; isplitr; · (ipureintro; exact hf)
  iexact H

/-- The first point's conditional leaves zeros; elsewhere it leaves the accumulator. What follows it, `rest`, is in both branches. -/
theorem zero_spec {α : Type} (rest : Prog (TpuEff nD τ sig (Elt F) (Λ₀ F) .tc) α) (X : Acc F) (K : α → sProp 𝕄) (P : Prop) [Decidable P] :
    iprop(owns (c : Thread nD τ) A5 fullShare X
        ∗ (owns (c : Thread nD τ) A5 fullShare (if P then k0_pay4 else X) -∗ wp frame (wpE (defs₀ (F := F)) 𝒱₀ c none) Set.univ rest K))
      ⊢ wp frame (wpE (defs₀ (F := F)) 𝒱₀ c none) Set.univ
        (if _h : P then
          (do let _ ← Prog.lift (.load A5 (Rect.unit (s := S10128x640) ![0, 0] S10128x640.size inb_S10128x640_S10128x640_0_0).toLoadRect (View.loadsAt_vmem h_S10128x640))
              Prog.lift (.store A5 (Rect.unit (s := S10128x640) ![0, 0] S10128x640.size inb_S10128x640_S10128x640_0_0) (k0_pay4 (F := F)) Finset.univ (View.stores_vmem_bits_univ h_S10128x640 rfl) (.inl rfl))
              rest)
        else rest) K := by
  by_cases hP : P
  · simp only [hP, ↓reduceDIte, ↓reduceIte, Prog.lift, Prog.bind_op, Prog.bind_ret]
    unfold owns
    iintro ⟨⟨%f, %hf, H⟩, Hk⟩
    iapply (wp_load_rect 𝒱₀ (c : Thread nD τ) none Set.univ (m := A5) (r := Rect.unit (s := S10128x640) ![0, 0] S10128x640.size inb_S10128x640_S10128x640_0_0) (View.set_slice_subset _ _)) $$ H; iintro H
    iapply (wp_store 𝒱₀ (c : Thread nD τ) none Set.univ (m := A5) (r := Rect.unit (s := S10128x640) ![0, 0] S10128x640.size inb_S10128x640_S10128x640_0_0) (Mk := Finset.univ) (View.set_slice_subset _ _)) $$ H; iintro H
    iapply Hk
    iexists _; isplitr; swap; · iexact H
    ipureintro
    exact View.read_writes_full A5.view f inb_S10128x640_S10128x640_0_0 (k0_pay4 (F := F)) []
  · simp only [hP, ↓reduceDIte, ↓reduceIte]
    iintro ⟨H, Hk⟩
    iapply Hk
    iexact H

/-- The last point's conditional normalises the accumulator; elsewhere it leaves it. -/
theorem norm_spec (X : Acc F) (K : PUnit → sProp 𝕄) (P : Prop) [Decidable P] :
    iprop(owns (c : Thread nD τ) A5 fullShare X ∗ (owns (c : Thread nD τ) A5 fullShare (if P then norm X else X) -∗ K ⟨⟩))
      ⊢ wp frame (wpE (defs₀ (F := F)) 𝒱₀ c none) Set.univ
        (if _h : P then
          .op (.load A5 (Rect.unit (s := S10128x640) ![0, 512] S10128x1.size inb_S10128x640_S10128x1_0_512).toLoadRect (View.loadsAt_vmem h_S10128x1)) fun v40 : Vec F S10128x1 .f32 =>
          .op (.load A5 (Rect.unit (s := S10128x640) ![0, 0] S10128x512.size inb_S10128x640_S10128x512_0_0).toLoadRect (View.loadsAt_vmem h_S10128x512)) fun v42 : Vec F S10128x512 .f32 =>
          .op (.load A5 (Rect.unit (s := S10128x640) ![0, 0] S10128x512.size inb_S10128x640_S10128x512_0_0).toLoadRect (View.loadsAt_vmem h_S10128x512)) fun _ =>
          .op (.store A5 (Rect.unit (s := S10128x640) ![0, 0] S10128x512.size inb_S10128x640_S10128x512_0_0) (k0_pay1 v40 v42) Finset.univ (View.stores_vmem_bits_univ h_S10128x512 rfl) (.inl rfl)) fun _ =>
          .ret ⟨⟩
        else .ret ⟨⟩ : Prog (TpuEff nD τ sig (Elt F) (Λ₀ F) .tc) PUnit) K := by
  by_cases hP : P
  · simp only [hP, ↓reduceDIte, ↓reduceIte]
    unfold owns
    iintro ⟨⟨%f, %hf, H⟩, Hk⟩
    iapply (wp_load_rect 𝒱₀ (c : Thread nD τ) none Set.univ (m := A5) (r := Rect.unit (s := S10128x640) ![0, 512] S10128x1.size inb_S10128x640_S10128x1_0_512) (View.set_slice_subset _ _)) $$ H; iintro H
    iapply (wp_load_rect 𝒱₀ (c : Thread nD τ) none Set.univ (m := A5) (r := Rect.unit (s := S10128x640) ![0, 0] S10128x512.size inb_S10128x640_S10128x512_0_0) (View.set_slice_subset _ _)) $$ H; iintro H
    iapply (wp_load_rect 𝒱₀ (c : Thread nD τ) none Set.univ (m := A5) (r := Rect.unit (s := S10128x640) ![0, 0] S10128x512.size inb_S10128x640_S10128x512_0_0) (View.set_slice_subset _ _)) $$ H; iintro H
    iapply (wp_store 𝒱₀ (c : Thread nD τ) none Set.univ (m := A5) (r := Rect.unit (s := S10128x640) ![0, 0] S10128x512.size inb_S10128x640_S10128x512_0_0) (Mk := Finset.univ) (View.set_slice_subset _ _)) $$ H; iintro H
    rw [wp_ret]; imodintro
    iapply Hk
    iexists _; isplitr; swap; · iexact H
    ipureintro
    refine (read_store A5 inb_S10128x640_S10128x512_0_0 f _).trans ?_
    unfold norm
    rw [← hf]
    rfl
  · simp only [hP, ↓reduceDIte, ↓reduceIte]
    iintro ⟨H, Hk⟩
    rw [wp_ret]; imodintro
    iapply Hk
    iexact H

/-- The loop from any start a segment can be. -/
theorem loop_spec (v27 : Vec F S1x1024 .i32) (v25 : Vec F S1024x640 .bf16) (last s : BitVec 32) (hv : ∀ j, (v27 j : BitVec 32).toNat ≤ 10000)
    (hl : last.toNat ≤ 10000) (hs : s.toNat ≤ 10000) (X : Acc F) :
    spec c v27 v25 last A5 trips s X ≤ wp frame (wpE (defs₀ (F := F)) 𝒱₀ (c : Thread nD τ) (some trips)) Set.univ
      (defs₀ (F := F) .tc 1 ⟨i, last, v27, v25, A5, h5, s⟩) := by
  intro K
  exact spec_le (F := F) c i v27 v25 last A5 h5 Set.univ hv hl trips s (by omega) (by rw [trips_def]; omega) X K

/-- The call that runs the loop, and what follows it. -/
theorem call_spec {α : Type} (v27 : Vec F S1x1024 .i32) (v25 : Vec F S1024x640 .bf16) (last s : BitVec 32) (hv : ∀ j, (v27 j : BitVec 32).toNat ≤ 10000)
    (hl : last.toNat ≤ 10000) (hs : s.toNat ≤ 10000) (X : Acc F) (k : BitVec 32 → Prog (TpuEff nD τ sig (Elt F) (Λ₀ F) .tc) α) (K : α → sProp 𝕄) :
    iprop(owns (c : Thread nD τ) A5 fullShare X ∗ (∀ r : BitVec 32, (owns (c : Thread nD τ) A5 fullShare (loop v27 v25 last trips s X)
        -∗ wp frame (wpE (defs₀ (F := F)) 𝒱₀ c none) Set.univ (k r) K)))
      ⊢ wp frame (wpE (defs₀ (F := F)) 𝒱₀ c none) Set.univ (.op (.call (1 : (Λ₀ F).Label) ⟨i, last, v27, v25, A5, h5, s⟩) k) K := by
  have hS := loop_spec (F := F) c i A5 h5 v27 v25 last s hv hl hs X
  iintro H
  iapply (wp_call_spec 𝒱₀ (c : Thread nD τ) none Set.univ _ trips (fun u hu => nomatch hu) hS)
  rw [spec_apply]
  iexact H

/-- The five staging buffers, the inputs at their blocks and the accumulator at `X`. -/
def held (x0 : Vec F S1x1x1024 .i32) (x1 : Vec F S1024x512 .bf16) (x2 : Vec F S512x640 .bf16) (x3 : Vec F S1x640 .f32) (X : Acc F) : sProp 𝕄 :=
  iprop(owns (c : Thread nD τ) A1 fullShare x0 ∗ owns (c : Thread nD τ) A2 fullShare x1 ∗ owns (c : Thread nD τ) A3 fullShare x2
    ∗ owns (c : Thread nD τ) A4 fullShare x3 ∗ owns (c : Thread nD τ) A5 fullShare X)

/-- The body at a point, on any five staging buffers: the inputs stay, the accumulator takes `step`. -/
theorem body_spec (x0 : Vec F S1x1x1024 .i32) (x1 : Vec F S1024x512 .bf16) (x2 : Vec F S512x640 .bf16) (x3 : Vec F S1x640 .f32) (X : Acc F)
    (hx : ∀ j, (x0 j : BitVec 32).toNat ≤ 10000) (K : PUnit → sProp 𝕄) :
    iprop(held c A1 A2 A3 A4 A5 x0 x1 x2 x3 X ∗ (held c A1 A2 A3 A4 A5 x0 x1 x2 x3 (step i x0 x1 x2 x3 X) -∗ K ⟨⟩))
      ⊢ wp frame (wpE (defs₀ (F := F)) 𝒱₀ c none) Set.univ (cc0__pool_block (F := F) i A1 h1 A2 h2 A3 h3 A4 h4 A5 h5) K := by
  obtain ⟨hf, hl, h6⟩ := ends_le (F := F) x0 hx
  simp only [cc0__pool_block_eq_skeleton]; unfold cc0__pool_block_skel
  rw [wp_bind]
  simp only [k0_part1_eq_skeleton]; unfold k0_part1_skel
  dsimp only
  unfold held
  iintro ⟨⟨H1, H2, H3, H4, H5⟩, Hk⟩
  iapply (zero_spec c A5 _ X _ (isFirst i))
  isplitl [H5]; · iexact H5
  iintro H5
  simp only [Prog.lift, Prog.bind_op, Prog.bind_ret, Prog.pure_eq_ret]
  iapply (load_all c A2 (off := ![0, 0]) inb_S1024x512_S1024x512_0_0 _ x1 _ _)
  isplitl [H2]; · iexact H2
  iintro H2
  iapply (load_all c A3 (off := ![0, 0]) inb_S512x640_S512x640_0_0 _ x2 _ _)
  isplitl [H3]; · iexact H3
  iintro H3
  iapply (load_all c A4 (off := ![0, 0]) inb_S1x640_S1x640_0_0 _ x3 _ _)
  isplitl [H4]; · iexact H4
  iintro H4
  iapply (load_all c A1 (off := ![0, 0, 0]) inb_S1x1x1024_S1x1x1024_0_0_0 _ x0 _ _)
  isplitl [H1]; · iexact H1
  iintro H1
  unfold firstOf at hf
  unfold lastOf at hl
  iapply (@call_spec F _ c i A5 h5 _ (k0_pay6 (F := F) x0) (k0_pay5 x1 x2 x3) _ _ h6 hl hf (if isFirst i then k0_pay4 else X) _ _)
  isplitl [H5]; · iexact H5
  iintro %r H5
  rw [wp_ret]; imodintro
  iapply (@norm_spec F _ c A5 (pass x0 x1 x2 x3 (if isFirst i then k0_pay4 else X)) _ (isLast i) _)
  isplitl [H5]; · iexact H5
  iintro H5
  iapply Hk
  isplitl [H1]; · iexact H1
  isplitl [H2]; · iexact H2
  isplitl [H3]; · iexact H3
  isplitl [H4]; · iexact H4
  unfold step
  iexact H5

end Body

end Cert.Proof.KI

end
-- ==== Proof.KI.Launch.lean ====
/-
  The launch: what the accumulator holds after each point of the grid, and the run of @main from any memory whose
  padded segment rows are segments.
-/
module

public import proofs.«01_k».proof.Proof.KI.Setup
public import proofs.«01_k».proof.Proof.KI.Point
public import Idealize.ShloMosaic.Lib.StableHlo.RunHlo
public import Idealize.ShloMosaic.Lib.Pipeline.FrameBody

@[expose] public section

set_option maxRecDepth 16384

noncomputable section

namespace Cert.Proof.KI

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of segments at a point. -/
def rows (c : Dev nD) (t : Fin (cfg0 (F := F)).N) : Vec F S1x1x1024 .i32 := blockAt m c 0 t
/-- The block of features at a point. -/
def feats (c : Dev nD) (t : Fin (cfg0 (F := F)).N) : Vec F S1024x512 .bf16 := blockAt m c 1 t
/-- The joined weights at a point. -/
def weights (c : Dev nD) (t : Fin (cfg0 (F := F)).N) : Vec F S512x640 .bf16 := blockAt m c 2 t
/-- The joined biases at a point. -/
def biases (c : Dev nD) (t : Fin (cfg0 (F := F)).N) : Vec F S1x640 .f32 := blockAt m c 3 t

/-- The accumulator after a point, from what it held before. -/
def stepAt (c : Dev nD) (t : Fin (cfg0 (F := F)).N) (X : Acc F) : Acc F :=
  step (grid0.coords t) (rows m c t) (feats m c t) (weights m c t) (biases m c t) X

/-- The accumulator after point `n`. -/
def accAfter (c : Dev nD) : ℕ → Acc F
  | 0 => stepAt m c ⟨0, by rw [show (cfg0 (F := F)).N = 98 from N_0]; omega⟩ k0_pay4
  | n + 1 => if h : n + 1 < (cfg0 (F := F)).N then stepAt m c ⟨n + 1, h⟩ (accAfter c n) else accAfter c n

/-- The pipeline's contents at every point. -/
def dats : (p : Fin 1) → (c : Dev nD) → Dat τ (Elt F) Unit ℕ (UR sig nD τ) ℕ (cfgs (F := F) p) c := fun _ c =>
  { A := fun w => entryAt m c (Pipeline.arrRef spec0 w)
    after := fun w t => match w with
      | ⟨0, h⟩ => blockAt m c ⟨0, h⟩ t
      | ⟨1, h⟩ => blockAt m c ⟨1, h⟩ t
      | ⟨2, h⟩ => blockAt m c ⟨2, h⟩ t
      | ⟨3, h⟩ => blockAt m c ⟨3, h⟩ t
      | ⟨4, _⟩ => accAfter m c t.val
    Φ := fun _ => Pipeline.ΦA spec0 c
    q := fun _ => fullShare
    owed := fun _ => 0 }

theorem dats_A (c : Dev nD) (w : Fin (cfg0 (F := F)).W) : (dats m 0 c).A w = entryAt m c (Pipeline.arrRef spec0 w) := by dsimp only [dats]
theorem after_0 (c : Dev nD) (t : Fin (cfg0 (F := F)).N) : (dats m 0 c).after 0 t = blockAt m c 0 t := by dsimp only [dats]; rfl
theorem after_1 (c : Dev nD) (t : Fin (cfg0 (F := F)).N) : (dats m 0 c).after 1 t = blockAt m c 1 t := by dsimp only [dats]; rfl
theorem after_2 (c : Dev nD) (t : Fin (cfg0 (F := F)).N) : (dats m 0 c).after 2 t = blockAt m c 2 t := by dsimp only [dats]; rfl
theorem after_3 (c : Dev nD) (t : Fin (cfg0 (F := F)).N) : (dats m 0 c).after 3 t = blockAt m c 3 t := by dsimp only [dats]; rfl
theorem after_4 (c : Dev nD) (t : Fin (cfg0 (F := F)).N) : (dats m 0 c).after 4 t = accAfter m c t.val := by dsimp only [dats]; rfl

/-- The body's first-point test holds at the first point. -/
theorem isFirst_zero (h : 0 < grid0.N) : isFirst (grid0.coords ⟨0, h⟩) := by
  have e : ((grid0.coords ⟨0, h⟩) 0).val = 0 := by decide +revert
  show Scalar.cmpi .ne _ _ = 1#1
  rw [e]
  decide

/-- At the first point the body ignores what the accumulator held. -/
theorem step_first (i : grid0.Coords) (h : isFirst i) (x0 : Vec F S1x1x1024 .i32) (x1 : Vec F S1024x512 .bf16) (x2 : Vec F S512x640 .bf16)
    (x3 : Vec F S1x640 .f32) (X Y : Acc F) : step i x0 x1 x2 x3 X = step i x0 x1 x2 x3 Y := by
  unfold step; rw [if_pos h, if_pos h]

/-- The accumulator after a point is the body's step of what it finds: anything at the first point. -/
theorem accAfter_eq (c : Dev nD) (t : Fin (cfg0 (F := F)).N) (d) : stepAt m c t ((dats m 0 c).before 4 t d) = accAfter m c t.val := by
  obtain ⟨n, hn⟩ := t
  cases n with
  | zero =>
    exact step_first _ (isFirst_zero hn) _ _ _ _ _ _
  | succ n =>
    have hb : (dats m 0 c).before 4 ⟨n + 1, hn⟩ d = accAfter m c n := by
      rw [(dats m 0 c).before_out_kept 4 rfl ⟨n + 1, hn⟩ (Nat.succ_ne_zero n) ?_ (fun _ => rfl) (fun _ _ => rfl) d]
      · exact after_4 m c _
      · rw [Bool.eq_false_iff]
        intro hf
        have h97 := (flush0_4 (F := F) _).mp hf
        have hN : (cfg0 (F := F)).N = 98 := N_0
        have h0 : n + 1 < 98 := hN ▸ hn
        have h1 : (n + 1 - 1) % 98 = 97 := h97
        omega
    rw [hb]
    show _ = accAfter m c (n + 1)
    rw [accAfter, dif_pos hn]

/-! ## The body at each point -/

section Obligation

variable (hrows : ∀ c t j, (rows m c t j : BitVec 32).toNat ≤ 10000)

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

include hrows in
/-- The body takes what it is called with to what the pipeline's contents say. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, HO, ⟨%d0, H0⟩, ⟨%d1, H1⟩, ⟨%d2, H2⟩, ⟨%d3, H3⟩, ⟨%d4, H4⟩⟩
  rw [before_in0 m (dats m 0 c) (dats_A m c 0) (after_0 m c) t d0, before_in1 m (dats m 0 c) (dats_A m c 1) (after_1 m c) t d1,
    before_in2 m (dats m 0 c) (dats_A m c 2) (after_2 m c) t d2, before_in3 m (dats m 0 c) (dats_A m c 3) (after_3 m c) t d3,
    ← accAfter_eq m c t d4]
  iapply (@body_spec F _ c (grid0.coords t) (st0_0 t) _ (st0_1 t) _ (st0_2 t) _ (st0_3 t) _ (st0_4 t) _
    (rows m c t) (feats m c t) (weights m c t) (biases m c t) ((dats m 0 c).before 4 t d4) (hrows c t) _)
  unfold held
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- The body table's row at a point is the body on the point's staging buffers. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

include hrows in
/-- The pipeline's obligation on the body. -/
theorem body_obligation (c : Dev nD) : BodyObligation (dats (F := F) m 0 c) (defs₀ (F := F)) 𝒱₀ () Set.univ := fun t => by
  rw [bigSep_W0, bigSep_W0, defs₀_row]
  exact triple_restated (sound_body m hrows c t) rfl .rfl fun _ => .rfl

set_option backward.isDefEq.respectTransparency.types false in
include hrows in
/-- Every run of @main ends with each window's array at its contents after the last point, every other buffer as the host operations
    leave it, and every counter at zero. -/
theorem run_main : θ_run defs (onTc (τ := τ) (main (F := F))) (s₀ m ρ)
    (fun r => Pipeline.FramePost (cfgs (F := F)) (dats m) 0 (Pipeline.afterTail₀ (cfgs (F := F)) (dats m) 0 (entry m) behind) r
      ∧ r.2.sem = fun _ => 0) :=
  Pipeline.θ_run_frame_around (Q' := _) (cfgs (F := F)) (dats m) (0 : Fin 1) (launch0 (F := F)) defs₀ 𝒱₀ m ρ main
    (hbody := fun c => (body_obligation m hrows c).loose) (hshare := fun c w => by unfold Dat.share; split <;> rfl)
    (howed := fun _ _ => rfl) (V₀ := entry m) (opss := behind) (hsub := behind_sub) (hfresh := behind_fresh) (hkeep := behind_keeps)
    (hmain := main_around m 𝒱₀) (hA := fun c w => dats_A m c w) (hΦ := fun _ _ => rfl) (hQ' := fun _ h => h)

include hrows in
/-- Every run of @main ends with the result buffer at the host operations' value on it, the six arguments as launched, and every
    counter at zero. -/
theorem run_result : θ_run defs (onTc (τ := τ) (main (F := F))) (s₀ m ρ)
    (fun r => (∀ c : Dev nD, r.2.mem ((c : Thread nD τ).loc main_v11)
          = Pipeline.afterTail₀ (cfgs (F := F)) (dats m) 0 (entry m) behind c main_v11
        ∧ ∀ b ∈ argRefs, r.2.mem ((c : Thread nD τ).loc b) = m ((c : Thread nD τ).loc b))
      ∧ r.2.sem = fun _ => 0) := by
  refine θ_run_mono (run_main m ρ hrows) fun r hr => ?_
  obtain ⟨h, hs⟩ := hr
  refine ⟨fun c => ⟨(h c).2 main_v11 (Pipeline.mem_restRefs_of main_v11 (by decide) (by exact (by decide : ∀ w, Pipeline.arrRef spec0 w ≠ main_v11))), fun b hb => ?_⟩, hs⟩
  rw [← final_arg m (dats m) c b hb]
  simp only [List.mem_cons, List.mem_nil_iff, _root_.or_false] at hb
  rcases hb with rfl | rfl | rfl | rfl | rfl | rfl
  · exact (h c).2 _ (Pipeline.mem_restRefs_of _ (by decide) (by exact (by decide : ∀ w, Pipeline.arrRef spec0 w ≠ main_arg0)))
  · exact (h c).2 _ (Pipeline.mem_restRefs_of _ (by decide) (by exact (by decide : ∀ w, Pipeline.arrRef spec0 w ≠ main_arg1)))
  · exact (h c).2 _ (Pipeline.mem_restRefs_of _ (by decide) (by exact (by decide : ∀ w, Pipeline.arrRef spec0 w ≠ main_arg2)))
  · exact (h c).2 _ (Pipeline.mem_restRefs_of _ (by decide) (by exact (by decide : ∀ w, Pipeline.arrRef spec0 w ≠ main_arg3)))
  · exact (h c).2 _ (Pipeline.mem_restRefs_of _ (by decide) (by exact (by decide : ∀ w, Pipeline.arrRef spec0 w ≠ main_arg4)))
  · exact (h c).2 _ (Pipeline.mem_restRefs_of _ (by decide) (by exact (by decide : ∀ w, Pipeline.arrRef spec0 w ≠ main_arg5)))

end Obligation

end Cert.Proof.KI

end
-- ==== Proof.KI.Entry.lean ====
/-
  What the region finds in the windows' arrays, as the host operations before it compute them from the arguments, and
  that the padded segments are segments of rows.
-/
module

public import proofs.«01_k».proof.Proof.KI.Launch
public import Idealize.ShloMosaic.Lib.StableHlo.RunRead
public import Idealize.ShloMosaic.Lib.KernelVsHost

@[expose] public section

set_option maxRecDepth 16384

noncomputable section

namespace Cert.Proof.KI

open Cert.KernelIdeal Cert.KernelIdeal.Gen Cert.KernelIdeal.Facts
open Idealize.ShloMosaic Idealize.ShloMosaic.TcCoe

variable {F : FTy → Type} [FloatOps F]

variable (m : (ℓ : Loc nD τ sig) → Buf (Elt F) ℓ) (c : Dev nD)

/-- The segments padded with the number of segments, as 98 blocks. -/
theorem entry_rows : (entryAt m c main_v3 : Vec F S98x1x1024 .i32)
    = shapeCast S98x1x1024 (pad S100352 ![0] ![352] ![0] (m ((c : Thread nD τ).loc main_arg1) : Vec F S100000 .i32) (constantI S_ 32 10000#32)
        pads_S100000_S100352_03520 h_S_) shapeCasts_S100352_S98x1x1024 := by
  show StableHlo.after _ (fun b => m (c, b)) (Proc.devRef .tc main_v3) = _
  simp only [before, hostOps0, hostOps0_1, hostOps0_2, hostOps0_3, hostOps0_4, List.flatten_cons, List.flatten_nil, List.append_nil, List.cons_append, List.nil_append]
  after_reads_simp
  rfl

/-- The features padded with rows of zeros. -/
theorem entry_feats : (entryAt m c main_v1 : Vec F S100352x512 .bf16)
    = truncf .bf16 (pad S100352x512 ![0, 0] ![352, 0] ![0, 0] (m ((c : Thread nD τ).loc main_arg0) : Vec F S100000x512 .f32)
        (sitofp .f32 (constantI S_ 32 0#32) : Vec F S_ .f32) pads_S100000x512_S100352x512_03520_000 h_S_) bitsLt_bf16_f32 := by
  show StableHlo.after _ (fun b => m (c, b)) (Proc.devRef .tc main_v1) = _
  simp only [before, hostOps0, hostOps0_1, hostOps0_2, hostOps0_3, hostOps0_4, List.flatten_cons, List.flatten_nil, List.append_nil, List.cons_append, List.nil_append]
  after_reads_simp
  rfl

/-- The message weights, the gate weights and 127 columns of zeros, side by side. -/
theorem entry_weights : (entryAt m c main_v6 : Vec F S512x640 .bf16)
    = truncf .bf16 (concatenate S512x640 1 [⟨S512x512, (m ((c : Thread nD τ).loc main_arg4) : Vec F S512x512 .f32)⟩,
        ⟨S512x1, (m ((c : Thread nD τ).loc main_arg2) : Vec F S512x1 .f32)⟩,
        ⟨S512x127, (broadcastInDim S512x127 ![] bcast_S_S512x127 (constant S_ .f32 0x00000000#32 : Vec F S_ .f32))⟩]
        concatenates_S512x512_S512x1_S512x127_S512x640_d1 : Vec F S512x640 .f32) bitsLt_bf16_f32 := by
  show StableHlo.after _ (fun b => m (c, b)) (Proc.devRef .tc main_v6) = _
  simp only [before, hostOps0, hostOps0_1, hostOps0_2, hostOps0_3, hostOps0_4, List.flatten_cons, List.flatten_nil, List.append_nil, List.cons_append, List.nil_append]
  after_results_simp
  rfl

/-- The message bias, the gate bias and 127 zeros, side by side, as one row. -/
theorem entry_biases : (entryAt m c main_v9 : Vec F S1x640 .f32)
    = broadcastInDim S1x640 ![1] bcast_S640_S1x640_1 (concatenate S640 0 [⟨S512, (m ((c : Thread nD τ).loc main_arg5) : Vec F S512 .f32)⟩,
        ⟨S1, (m ((c : Thread nD τ).loc main_arg3) : Vec F S1 .f32)⟩,
        ⟨S127, (broadcastInDim S127 ![] bcast_S_S127 (constant S_ .f32 0x00000000#32 : Vec F S_ .f32))⟩]
        concatenates_S512_S1_S127_S640_d0 : Vec F S640 .f32) := by
  show StableHlo.after _ (fun b => m (c, b)) (Proc.devRef .tc main_v9) = _
  simp only [before, hostOps0, hostOps0_1, hostOps0_2, hostOps0_3, hostOps0_4, List.flatten_cons, List.flatten_nil, List.append_nil, List.cons_append, List.nil_append]
  after_results_simp
  rfl

end Cert.Proof.KI

end
-- ==== Proof.KI.Blocks.lean ====
/-
  The blocks the kernel reads at a point of the grid, element by element, in the launch's arguments.
-/
module

public import proofs.«01_k».proof.Proof.KI.Entry
public import Idealize.ShloMosaic.Lib.Pipeline.Value
public import Idealize.ShloMosaic.Lib.ValueLayout

@[expose] public section

set_option maxRecDepth 16384

noncomputable section

namespace Cert.Proof.KI

open Cert.KernelIdeal Cert.KernelIdeal.Gen Cert.KernelIdeal.Facts
open Idealize.ShloMosaic Idealize.ShloMosaic.TcCoe

variable {F : FTy → Type} [FloatOps F]

variable (m : (ℓ : Loc nD τ sig) → Buf (Elt F) ℓ) (c : Dev nD)

/-- A point is one of 98. -/
theorem point_lt (t : Fin (cfg0 (F := F)).N) : t.val < 98 := lt_of_lt_of_eq t.isLt N_0

/-- The point's only coordinate is its number. -/
theorem coords_val (t : Fin (cfg0 (F := F)).N) : ((cfg0 (F := F)).grid.coords t 0).val = t.val := by
  have h := point_lt t
  rw [Pipeline.Grid.coords_val t 0 (S := 1) (B := 98) (show grid0.stride 0 = 1 by decide) rfl, Nat.div_one, Nat.mod_eq_of_lt h]

/-- The point's number, as the index maps compute it. -/
theorem coords_word (t : Fin (cfg0 (F := F)).N) : (BitVec.ofNat 32 ((cfg0 (F := F)).grid.coords t 0).val).toNat = t.val := by
  have h := point_lt t
  rw [coords_val, BitVec.toNat_ofNat, Nat.mod_eq_of_lt (by omega)]

/-- The block of segments at a point is the point's block of the padded segments. -/
theorem rows_apply (t : Fin (cfg0 (F := F)).N) (r : Fin 1024) :
    rows m c t (ix3 0 0 r) = (entryAt m c main_v3 : Vec F S98x1x1024 .i32) (ix3 ⟨t.val, point_lt t⟩ 0 r) := by
  unfold rows blockAt
  refine congrArg (entryAt m c main_v3 : Vec F S98x1x1024 .i32) (funext fun a => Fin.ext ?_)
  refine (Pipeline.Window.rect_emb_val ((cfg0 (F := F)).win 0) t _ a rfl).trans ?_
  fin_cases a
  · show (BitVec.ofNat 32 ((cfg0 (F := F)).grid.coords t 0).val).toNat * 1 + 0 = t.val
    rw [coords_word]
    omega
  · rfl
  · show 0 * 1024 + r.val = r.val
    omega

/-- The block of features at a point is the point's rows of the padded features. -/
theorem feats_apply (t : Fin (cfg0 (F := F)).N) (r : Fin 1024) (k : Fin 512) :
    feats m c t (ix2 r k) = (entryAt m c main_v1 : Vec F S100352x512 .bf16)
      (ix2 ⟨t.val * 1024 + r.val, by have := point_lt t; omega⟩ k) := by
  unfold feats blockAt
  refine congrArg (entryAt m c main_v1 : Vec F S100352x512 .bf16) (funext fun a => Fin.ext ?_)
  refine (Pipeline.Window.rect_emb_val ((cfg0 (F := F)).win 1) t _ a rfl).trans ?_
  fin_cases a
  · show (BitVec.ofNat 32 ((cfg0 (F := F)).grid.coords t 0).val).toNat * 1024 + r.val = t.val * 1024 + r.val
    rw [coords_word]
  · show 0 * 512 + k.val = k.val
    omega

/-- Every point reads the joined weights whole. -/
theorem weights_apply (t : Fin (cfg0 (F := F)).N) (k : Fin 512) (j : Fin 640) :
    weights m c t (ix2 k j) = (entryAt m c main_v6 : Vec F S512x640 .bf16) (ix2 k j) := by
  unfold weights blockAt
  refine congrArg (entryAt m c main_v6 : Vec F S512x640 .bf16) (funext fun a => Fin.ext ?_)
  refine (Pipeline.Window.rect_emb_val ((cfg0 (F := F)).win 2) t _ a rfl).trans ?_
  fin_cases a
  · show 0 * 512 + k.val = k.val
    omega
  · show 0 * 640 + j.val = j.val
    omega

/-- Every point reads the joined biases whole. -/
theorem biases_apply (t : Fin (cfg0 (F := F)).N) (j : Fin 640) :
    biases m c t (ix2 0 j) = (entryAt m c main_v9 : Vec F S1x640 .f32) (ix2 0 j) := by
  unfold biases blockAt
  refine congrArg (entryAt m c main_v9 : Vec F S1x640 .f32) (funext fun a => Fin.ext ?_)
  refine (Pipeline.Window.rect_emb_val ((cfg0 (F := F)).win 3) t _ a rfl).trans ?_
  fin_cases a
  · rfl
  · show 0 * 640 + j.val = j.val
    omega

/-- The segment of padded row `p`: the row's own segment, and the number of segments behind the rows. -/
def padSeg (p : Fin 100352) : BitVec 32 :=
  if h : p.val < 100000 then (m ((c : Thread nD τ).loc main_arg1) : Vec F S100000 .i32) (ix1 ⟨p.val, h⟩) else 10000#32

/-- The padded segments at a block's position are the segments of the padded rows. -/
theorem entry_rows_apply (t : Fin 98) (r : Fin 1024) :
    (entryAt m c main_v3 : Vec F S98x1x1024 .i32) (ix3 t 0 r) = padSeg m c ⟨t.val * 1024 + r.val, by omega⟩ := by
  rw [entry_rows, shapeCast_apply _ _ (ix3 t 0 r) (ix1 (n0 := 100352) ⟨t.val * 1024 + r.val, by omega⟩)
    (by rw [Shape.rowMajor_val_one, Shape.rowMajor_val_three]; show t.val * 1024 + r.val = (t.val * 1 + 0) * 1024 + r.val; omega)]
  unfold padSeg
  split
  next h =>
    exact pad_apply_of_inside _ _ _ _ _ _ _ _ (ix1 (n0 := 100000) ⟨t.val * 1024 + r.val, h⟩) fun a => by
      fin_cases a; show t.val * 1024 + r.val = 0 + (t.val * 1024 + r.val) * (0 + 1); omega
  next h =>
    exact pad_apply_of_not_inside _ _ _ _ _ _ _ _ 0 fun e => h (by
      have e' : (t.val * 1024 + r.val - 0) / (0 + 1) < 100000 := e.2.2
      show t.val * 1024 + r.val < 100000
      omega)

/-- Every block row is a segment, if every row's segment is. -/
theorem rows_le (hseg : ∀ j, ((m ((c : Thread nD τ).loc main_arg1) : Vec F S100000 .i32) j).toNat < 10000)
    (t : Fin (cfg0 (F := F)).N) (j : S1x1x1024.Idx) : (rows m c t j : BitVec 32).toNat ≤ 10000 := by
  obtain ⟨r, rfl⟩ : ∃ r : Fin 1024, j = (ix3 (0 : Fin 1) (0 : Fin 1) r : S1x1x1024.Idx) := ⟨j 2, by
    funext a; fin_cases a
    · exact Subsingleton.elim (α := Fin 1) _ _
    · exact Subsingleton.elim (α := Fin 1) _ _
    · rfl⟩
  rw [rows_apply m c t r, entry_rows_apply m c _ r]
  unfold padSeg
  split
  next h => exact (hseg _).le
  next h => decide

end Cert.Proof.KI

end
-- ==== Proof.Frames.lean ====
/-
  The frames: each program runs from any memory its precondition admits, leaves its arguments as launched and every
  semaphore counter at zero.
-/
module

public import proofs.«01_k».proof.Proof.Range
public import proofs.«01_k».proof.Proof.KI.Blocks
public import proofs.«01_k».proof.Proof.KB.Blocks
public import proofs.«01_k».proof.Proof.Gen.ReferenceIdeal.Run
public import Idealize.ShloMosaic.Lib.Quiescent

@[expose] public section

set_option maxRecDepth 16384

noncomputable section

namespace Cert.Proof.Frames

open Idealize.ShloMosaic Idealize.SL.Sem

/-- The kernel's frame. -/
theorem kernel : Cert.quiescent_Kernel := by
  intro m g hp
  refine θ_run_mono (KB.run_result (F := Bits) m g fun c t j => KB.rows_le m c (fun k => Range.of_segments _ _ _ _ _ _ (hp c) k) t j) fun r h => ?_
  refine ⟨fun c => ?_, h.2⟩
  have hc := (h.1 c).2
  exact ⟨hc _ (by decide), hc _ (by decide), hc _ (by decide), hc _ (by decide), hc _ (by decide), hc _ (by decide)⟩

/-- The frame of the kernel at the ideal numbers, from any memory whose segments are segments. -/
theorem ideal_of_lt (m : (ℓ : Loc Cert.KernelIdeal.nD Cert.KernelIdeal.τ Cert.KernelIdeal.sig) → Buf (Elt Ideal) ℓ) (g : Dev Cert.KernelIdeal.nD → PrngReg)
    (hseg : ∀ c : Dev Cert.KernelIdeal.nD, ∀ k, ((m ((c.tc : Thread Cert.KernelIdeal.nD Cert.KernelIdeal.τ).loc Cert.KernelIdeal.main_arg1) : Vec Ideal Cert.KernelIdeal.S100000 .i32) k).toNat < 10000) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
  refine θ_run_mono (KI.run_result (F := Ideal) m g fun c t j => KI.rows_le m c (hseg c) t j) fun r h => ?_
  refine ⟨fun c => ?_, h.2⟩
  have hc := (h.1 c).2
  exact ⟨hc _ (by decide), hc _ (by decide), hc _ (by decide), hc _ (by decide), hc _ (by decide), hc _ (by decide)⟩

/-- The frame of the kernel at the ideal numbers. -/
theorem kernelIdeal : Cert.quiescent_KernelIdeal := fun m g hp =>
  ideal_of_lt m g fun c k => Range.of_segments _ _ _ _ _ _ (hp c) k

/-- The same frame under the precondition of the value claim. -/
theorem kernelIdeal_finite : Cert.quiescent_KernelIdeal_pre_finite_segments := fun m g hp =>
  ideal_of_lt m g fun c k => (Range.of_finite_segments _ _ _ _ _ _ (hp c)).2.1 k

/-- The reference's frame. -/
theorem referenceIdeal : Cert.quiescent_ReferenceIdeal := fun m g _ =>
  θ_run_mono (Cert.ReferenceIdeal.Value.run (F := Ideal) m g) fun r h =>
    ⟨fun c => (h c).2, sem_eq_zero_of_no_sems (by decide) r.2⟩

/-- The same frame under the precondition of the value claim. -/
theorem referenceIdeal_finite : Cert.quiescent_ReferenceIdeal_pre_finite_segments := fun m g _ =>
  referenceIdeal m g trivial

end Cert.Proof.Frames

end
-- ==== Proof.KI.Value.lean ====
/-
  The values of one block's pass over the extended reals: the joined products, the one-hot sums, and what the loop over
  the segments leaves in each accumulator cell.
-/
module

public import proofs.«01_k».proof.Proof.KI.Blocks
public import Idealize.ShloMosaic.Lib.Pointwise

@[expose] public section

set_option maxRecDepth 16384

noncomputable section

namespace Cert.Proof.KI

open Cert.KernelIdeal Cert.KernelIdeal.Gen Cert.Proof.Words Cert.KernelIdeal.Facts
open Idealize.ShloMosaic Idealize.ShloMosaic.TcCoe
open scoped BigOperators

/-! ## One trip -/

/-- The word a comparison of two words makes, as an extended real. -/
theorem indicator (x y : BitVec 32) :
    (FloatOps.sitofp (F := Ideal) FTy.f32 (BitVec.setWidth 32 (IntOp.cmpi CmpIPredicate.eq x y)) : EReal) = if x = y then 1 else 0 := by
  show (((BitVec.setWidth 32 (BitVec.ofBool (x == y))).toInt : ℝ) : EReal) = _
  by_cases h : x = y
  · rw [if_pos h, show (x == y) = true by simpa using h]
    show (((1 : Int) : ℝ) : EReal) = 1
    norm_num
  · rw [if_neg h, show (x == y) = false by simpa using h]
    show (((0 : Int) : ℝ) : EReal) = 0
    norm_num

/-- The one-hot sum added to a window of accumulator rows. -/
theorem pay2_apply (v27 : IVec S1x1024 32) (v25 : FVec Ideal S1024x640 .bf16) (s : BitVec 32) (v68 : FVec Ideal S128x640 .f32)
    (r : Fin 128) (q : Fin 640) :
    k0_pay2 v27 v25 s v68 (ix2 r q) = v68 (ix2 r q)
      + ∑ j : Fin 1024, if BitVec.ofNat 32 r.val = v27 (ix2 0 j) - base s then v25 (ix2 j q) else (0 : EReal) := by
  pointwise [k0_pay2]
  refine congrArg (v68 (ix2 r q) + ·) (Finset.sum_congr rfl fun j _ => ?_)
  refine (congrArg (· * v25 (ix2 j q)) (indicator (BitVec.ofNat 32 r.val) (v27 (ix2 0 j) - base s))).trans ?_
  split
  · exact one_mul _
  · exact zero_mul _

/-- A row of the window and a row of the block meet where the row's segment is the accumulator row. -/
theorem hot_iff (s w : BitVec 32) (hs : s.toNat ≤ 10000) (hw : w.toNat ≤ 10000) (r : ℕ) (hr : r < 128) :
    BitVec.ofNat 32 r = w - base s ↔ w.toNat = s.toNat / 8 * 8 + r := by
  have hb := base_toNat s (by omega)
  constructor
  · intro h
    have e : w = BitVec.ofNat 32 r + base s := by rw [h]; exact (BitVec.sub_add_cancel w (base s)).symm
    rw [e, BitVec.toNat_add, hb, BitVec.toNat_ofNat]
    omega
  · intro h
    apply BitVec.eq_of_toNat_eq
    rw [BitVec.toNat_sub, hb, BitVec.toNat_ofNat, h]
    omega

/-- One trip adds to each accumulator cell the weighted rows whose segment is that cell's row, where it lies in the window. -/
theorem trip_apply (v27 : IVec S1x1024 32) (v25 : FVec Ideal S1024x640 .bf16) (s : BitVec 32) (h : k0_chk1 s) (X : Acc Ideal)
    (hv : ∀ j, (v27 j).toNat ≤ 10000) (hs : s.toNat ≤ 10000) (r : Fin 10128) (q : Fin 640) :
    trip v27 v25 s h X (ix2 r q) = X (ix2 r q)
      + ∑ j : Fin 1024, if (v27 (ix2 0 j)).toNat = r.val ∧ s.toNat / 8 * 8 ≤ (v27 (ix2 0 j)).toNat ∧ (v27 (ix2 0 j)).toNat < s.toNat / 8 * 8 + 128
          then v25 (ix2 j q) else (0 : EReal) := by
  have hb := base_toNat s (by omega)
  have hq := q.isLt
  by_cases hin : s.toNat / 8 * 8 ≤ r.val ∧ r.val < s.toNat / 8 * 8 + 128
  · have hall : ∀ a : Fin S10128x640.rank, k0_off1 s a ≤ (ix2 r q a : Fin _).val ∧ (ix2 r q a : Fin _).val < k0_off1 s a + S128x640.size a := fun a => by
      rw [off_eq]
      fin_cases a
      · show (base s).toNat ≤ r.val ∧ r.val < (base s).toNat + 128
        omega
      · show 0 ≤ q.val ∧ q.val < 0 + 640
        omega
    have e : trip v27 v25 s h X (ix2 r q)
        = k0_pay2 v27 v25 s (VecWindow.window X (k0_off1 s) S128x640.size h) (ix2 ⟨r.val - s.toNat / 8 * 8, by omega⟩ q) := by
      refine (dif_pos hall).trans (congrArg _ (funext fun a => Fin.ext ?_))
      fin_cases a
      · show r.val - (base s).toNat = r.val - s.toNat / 8 * 8
        rw [hb]
      · rfl
    rw [e, pay2_apply]
    refine congrArg₂ (· + ·) (congrArg X (funext fun a => Fin.ext ?_)) (Finset.sum_congr rfl fun j _ => ?_)
    · fin_cases a
      · show (base s).toNat + 1 * (r.val - s.toNat / 8 * 8) = r.val
        omega
      · show 0 + 1 * q.val = q.val
        omega
    · refine if_congr ?_ rfl rfl
      rw [hot_iff s _ hs (hv _) _ (by show r.val - s.toNat / 8 * 8 < 128; omega)]
      show (v27 (ix2 0 j)).toNat = s.toNat / 8 * 8 + (r.val - s.toNat / 8 * 8) ↔ _
      omega
  · have e : trip v27 v25 s h X (ix2 r q) = X (ix2 r q) := by
      refine dif_neg fun hall => hin ?_
      have h0 := hall 0
      rw [off_eq] at h0
      change (base s).toNat ≤ r.val ∧ r.val < (base s).toNat + 128 at h0
      omega
    rw [e, Finset.sum_eq_zero, add_zero]
    intro j _
    rw [if_neg]
    omega

/-! ## The whole loop -/

/-- From a start no remaining row lies below, with trips enough, the loop adds every remaining row to its segment's cell. -/
theorem loop_apply (v27 : IVec S1x1024 32) (v25 : FVec Ideal S1024x640 .bf16) (last : BitVec 32) (hv : ∀ j, (v27 j).toNat ≤ 10000)
    (hl : last.toNat ≤ 10000) (hlast : ∀ j, (v27 j).toNat ≤ last.toNat) (r : Fin 10128) (q : Fin 640) :
    ∀ (k : ℕ) (s : BitVec 32) (X : Acc Ideal), s.toNat ≤ 10128 → 10129 ≤ s.toNat + k
      → (∀ j, s.toNat / 8 * 8 ≤ (v27 j).toNat → s.toNat ≤ (v27 j).toNat)
      → loop v27 v25 last k s X (ix2 r q) = X (ix2 r q)
        + ∑ j : Fin 1024, if (v27 (ix2 0 j)).toNat = r.val ∧ s.toNat / 8 * 8 ≤ (v27 (ix2 0 j)).toNat then v25 (ix2 j q) else (0 : EReal)
  | 0, s, X, hs, hk, _ => absurd hk (by omega)
  | k + 1, s, X, hs, hk, hleast => by
    unfold loop
    by_cases hle : s.toNat ≤ last.toNat
    · have hs' : s.toNat ≤ 10000 := by omega
      rw [if_pos ((sle_iff s last (by omega) (by omega)).2 hle), dif_pos (chk_of_le s hs')]
      obtain ⟨n1, n2, n3⟩ := nextStart_facts v27 s hv hs'
      rw [loop_apply v27 v25 last hv hl hlast r q k (nextStart v27 s) _ n2 (by omega) (fun j hj => n3 j (by omega)),
        trip_apply v27 v25 s _ X hv hs', add_assoc, ← Finset.sum_add_distrib]
      refine congrArg (X (ix2 r q) + ·) (Finset.sum_congr rfl fun j _ => ?_)
      have n3j := n3 (ix2 0 j)
      by_cases h1 : (v27 (ix2 0 j)).toNat = r.val ∧ s.toNat / 8 * 8 ≤ (v27 (ix2 0 j)).toNat
      · rw [if_pos h1]
        by_cases h2 : (v27 (ix2 0 j)).toNat < s.toNat / 8 * 8 + 128
        · rw [if_pos ⟨h1.1, h1.2, h2⟩, if_neg (by omega), add_zero]
        · rw [if_neg (by omega), if_pos ⟨h1.1, by have := n3j (by omega); omega⟩, zero_add]
      · rw [if_neg h1, if_neg (by omega), if_neg (by omega), add_zero]
    · rw [if_neg (fun h => hle ((sle_iff s last (by omega) (by omega)).1 h)), Finset.sum_eq_zero, add_zero]
      intro j _
      rw [if_neg]
      rintro ⟨-, h2⟩
      have := hleast _ h2
      have := hlast (ix2 0 j)
      omega

/-- The least and the greatest segment of a block bound every row's. -/
theorem ends_bound (x0 : Vec Ideal S1x1x1024 .i32) (hx : ∀ j, (x0 j : BitVec 32).toNat ≤ 10000) (j : S1x1024.Idx) :
    (firstOf (F := Ideal) x0).toNat ≤ (k0_pay6 (F := Ideal) x0 j).toNat ∧ (k0_pay6 (F := Ideal) x0 j).toNat ≤ (lastOf (F := Ideal) x0).toNat := by
  obtain ⟨hf, hl, h6⟩ := @ends_le Ideal _ x0 hx
  have hz : S1x1x1024.Idx := fun a => ⟨0, by fin_cases a <;> decide⟩
  have hone : ∀ j' : S1.Idx, j' = Shape.reshapeEquiv shapeCasts_S1_S1x1x1 (fun a => ⟨![0, 0, 0] a, inpos_S1x1x1_p0_0_0 a⟩) :=
    fun j' => funext fun a => by
      have e : ∀ x y : Fin 1, x = y := by decide
      fin_cases a; exact e _ _
  have hmin := min_all (shapeCast S1x1x1024 (k0_pay6 (F := Ideal) x0) shapeCasts_S1x1024_S1x1x1024) 2147483647#32 rfl reduces_S1x1x1024_S1 _ hone hz
  have hmax := max_all (shapeCast S1x1x1024 (k0_pay6 (F := Ideal) x0) shapeCasts_S1x1024_S1x1x1024) 2147483648#32 rfl reduces_S1x1x1024_S1 _ hone hz
  have e : shapeCast S1x1x1024 (k0_pay6 (F := Ideal) x0) shapeCasts_S1x1024_S1x1x1024 ((Shape.reshapeEquiv shapeCasts_S1x1024_S1x1x1024).symm j)
      = k0_pay6 (F := Ideal) x0 j := congrArg (k0_pay6 (F := Ideal) x0) (Equiv.apply_symm_apply _ _)
  have a1 := hmin.2 ((Shape.reshapeEquiv shapeCasts_S1x1024_S1x1x1024).symm j)
  have a2 := hmax.2 ((Shape.reshapeEquiv shapeCasts_S1x1024_S1x1x1024).symm j)
  change (firstOf (F := Ideal) x0).toInt ≤ _ at a1
  change _ ≤ (lastOf (F := Ideal) x0).toInt at a2
  have hj := h6 j
  rw [e, toInt_small _ (by omega), toInt_small _ (by omega)] at a1 a2
  exact ⟨by exact_mod_cast a1, by exact_mod_cast a2⟩

/-- A block's pass adds each row, weighted, to its segment's cell. -/
theorem pass_apply (x0 : Vec Ideal S1x1x1024 .i32) (hx : ∀ j, (x0 j : BitVec 32).toNat ≤ 10000) (x1 : Vec Ideal S1024x512 .bf16)
    (x2 : Vec Ideal S512x640 .bf16) (x3 : Vec Ideal S1x640 .f32) (X : Acc Ideal) (r : Fin 10128) (q : Fin 640) :
    pass (F := Ideal) x0 x1 x2 x3 X (ix2 r q) = X (ix2 r q)
      + ∑ j : Fin 1024, if (x0 (ix3 0 0 j) : BitVec 32).toNat = r.val then k0_pay5 (F := Ideal) x1 x2 x3 (ix2 j q) else (0 : EReal) := by
  obtain ⟨hf, hl, h6⟩ := @ends_le Ideal _ x0 hx
  have hb := ends_bound x0 hx
  unfold pass
  rw [loop_apply _ _ _ h6 hl (fun j => (hb j).2) r q trips _ X (by omega) (by rw [trips_def]; omega) (fun j _ => (hb j).1)]
  refine congrArg (X (ix2 r q) + ·) (Finset.sum_congr rfl fun j _ => ?_)
  have e : k0_pay6 (F := Ideal) x0 (ix2 0 j) = x0 (ix3 0 0 j) := by pointwise [k0_pay6]
  have hbj := (hb (ix2 0 j)).1
  rw [e] at hbj ⊢
  refine if_congr ⟨fun h => h.1, fun h => ⟨h, ?_⟩⟩ rfl rfl
  omega

/-! ## The columns of a row -/

/-- A row's joined product at a column. -/
theorem pay5_message (v3 : FVec Ideal S1024x512 .bf16) (v5 : FVec Ideal S512x640 .bf16) (v8 : FVec Ideal S1x640 .f32) (r : Fin 1024)
    (q : Fin 640) (hq : q.val < 512) :
    k0_pay5 (F := Ideal) v3 v5 v8 (ix2 r q) = (∑ k : Fin 512, v3 (ix2 r k) * v5 (ix2 k q) + v8 (ix2 0 q))
      * Ideal.exp (∑ k : Fin 512, v3 (ix2 r k) * v5 (ix2 k 512) + v8 (ix2 0 512)) := by
  pointwise [k0_pay5]
  rw [dif_pos hq]

/-- A row's exponential, at the column 512. -/
theorem pay5_weight (v3 : FVec Ideal S1024x512 .bf16) (v5 : FVec Ideal S512x640 .bf16) (v8 : FVec Ideal S1x640 .f32) (r : Fin 1024) :
    k0_pay5 (F := Ideal) v3 v5 v8 (ix2 r 512) = Ideal.exp (∑ k : Fin 512, v3 (ix2 r k) * v5 (ix2 k 512) + v8 (ix2 0 512)) := by
  pointwise [k0_pay5]

/-- The division of the first 512 columns. -/
theorem norm_apply (X : Acc Ideal) (r : Fin 10128) (q : Fin 512) :
    norm (F := Ideal) X (ix2 r ⟨q.val, by omega⟩)
      = Ideal.div (X (ix2 r ⟨q.val, by omega⟩)) (X (ix2 r 512) + Ideal.ofBits FTy.f32 0x2EDBE6FF#32) := by
  have hall : ∀ a : Fin S10128x640.rank, (![0, 0] : Fin 2 → ℕ) a ≤ (ix2 r ⟨q.val, by omega⟩ a : Fin (S10128x640.size a)).val
      ∧ (ix2 r ⟨q.val, by omega⟩ a : Fin (S10128x640.size a)).val < (![0, 0] : Fin 2 → ℕ) a + S10128x512.size a := fun a => by
    have := r.isLt
    have := q.isLt
    fin_cases a
    · show 0 ≤ r.val ∧ r.val < 0 + 10128
      omega
    · show 0 ≤ q.val ∧ q.val < 0 + 512
      omega
  have e : norm (F := Ideal) X (ix2 r ⟨q.val, by omega⟩)
      = k0_pay1 (VecWindow.window X ![0, 512] S10128x1.size inb_S10128x640_S10128x1_0_512)
        (VecWindow.window X ![0, 0] S10128x512.size inb_S10128x640_S10128x512_0_0) (ix2 r q) := by
    refine (dif_pos hall).trans (congrArg _ (funext fun a => Fin.ext ?_))
    fin_cases a <;> rfl
  rw [e]
  pointwise [k0_pay1]
  refine congrArg₂ Ideal.div (congrArg X (funext fun a => Fin.ext ?_)) (congrArg (· + _) (congrArg X (funext fun a => Fin.ext ?_)))
  · fin_cases a
    · show 0 + 1 * r.val = r.val
      omega
    · show 0 + 1 * q.val = q.val
      omega
  · fin_cases a
    · show 0 + 1 * r.val = r.val
      omega
    · rfl

end Cert.Proof.KI

end
-- ==== Proof.Spec.lean ====
/-
  The pooled value of a segment, in the problem's own terms: gates, messages, the weighted sum and its divisor.
-/
module

public import Idealize.ShloMosaic.Lib.Pointwise

@[expose] public section

noncomputable section

namespace Cert.Proof.Spec

open Idealize.ShloMosaic
open scoped BigOperators

/-- The six arrays: features, segments, gate weights, gate bias, message weights, message bias. -/
structure Arrays where
  fea : (⟨2, ![100000, 512]⟩ : Shape).Idx → EReal
  index : (⟨1, ![100000]⟩ : Shape).Idx → BitVec 32
  gateW : (⟨2, ![512, 1]⟩ : Shape).Idx → EReal
  gateB : (⟨1, ![1]⟩ : Shape).Idx → EReal
  msgW : (⟨2, ![512, 512]⟩ : Shape).Idx → EReal
  msgB : (⟨1, ![512]⟩ : Shape).Idx → EReal

variable (A : Arrays)

/-- The segment of a row. -/
def Arrays.seg (p : Fin 100000) : ℕ := (A.index (ix1 p)).toNat

/-- The gate of a row. -/
def Arrays.gate (p : Fin 100000) : EReal := (∑ k : Fin 512, A.fea (ix2 p k) * A.gateW (ix2 k 0)) + A.gateB (ix1 0)

/-- The message of a row at a column. -/
def Arrays.msg (p : Fin 100000) (q : Fin 512) : EReal := (∑ k : Fin 512, A.fea (ix2 p k) * A.msgW (ix2 k q)) + A.msgB (ix1 q)

/-- The constant that keeps the divisor off zero. -/
def eps : EReal := Ideal.ofBits FTy.f32 0x2EDBE6FF#32

/-- The sum of the exponentials of a segment's gates. -/
def Arrays.mass (r : ℕ) : EReal := ∑ p : Fin 100000, if A.seg p = r then Ideal.exp (A.gate p) else 0

/-- The sum of a segment's messages, each weighted with its exponential. -/
def Arrays.weighted (r : ℕ) (q : Fin 512) : EReal := ∑ p : Fin 100000, if A.seg p = r then A.msg p q * Ideal.exp (A.gate p) else 0

/-- The pooled value of a segment at a column. -/
def Arrays.pooled (r : ℕ) (q : Fin 512) : EReal := Ideal.div (A.weighted r q) (A.mass r + eps)

end Cert.Proof.Spec

end
-- ==== Proof.KI.Total.lean ====
/-
  The accumulator over all points: each cell ends as the sum over the rows of its segment.
-/
module

public import proofs.«01_k».proof.Proof.KI.Value
public import proofs.«01_k».proof.Proof.Spec

@[expose] public section

set_option maxRecDepth 16384

noncomputable section

namespace Cert.Proof.KI

open Cert.KernelIdeal Cert.KernelIdeal.Gen Cert.Proof.Words Cert.KernelIdeal.Facts Cert.Proof.Spec
open Idealize.ShloMosaic Idealize.ShloMosaic.TcCoe
open scoped BigOperators

variable (m : (ℓ : Loc nD τ sig) → Buf (Elt Ideal) ℓ) (c : Dev nD)

/-- The six arrays as the kernel is launched on them. -/
def arrays : Arrays where
  fea := (m ((c : Thread nD τ).loc main_arg0) : Vec Ideal S100000x512 .f32)
  index := (m ((c : Thread nD τ).loc main_arg1) : Vec Ideal S100000 .i32)
  gateW := (m ((c : Thread nD τ).loc main_arg2) : Vec Ideal S512x1 .f32)
  gateB := (m ((c : Thread nD τ).loc main_arg3) : Vec Ideal S1 .f32)
  msgW := (m ((c : Thread nD τ).loc main_arg4) : Vec Ideal S512x512 .f32)
  msgB := (m ((c : Thread nD τ).loc main_arg5) : Vec Ideal S512 .f32)

/-! ## What the windows read -/

/-- A row of the padded features that is a row of the features. -/
theorem entry_feats_apply (p : Fin 100352) (hp : p.val < 100000) (k : Fin 512) :
    (entryAt m c main_v1 : Vec Ideal S100352x512 .bf16) (ix2 p k) = (arrays m c).fea (ix2 ⟨p.val, hp⟩ k) := by
  rw [entry_feats, ValueIdx.truncf_apply]
  exact pad_apply_of_inside _ _ _ _ _ _ _ _ (ix2 (n0 := 100000) (n1 := 512) ⟨p.val, hp⟩ k) fun a => by
    fin_cases a
    · show p.val = 0 + p.val * (0 + 1); omega
    · show k.val = 0 + k.val * (0 + 1); omega

/-- Three arrays side by side, at a column of the first. -/
theorem joined_first (x : S512x512.Idx → EReal) (y : S512x1.Idx → EReal) (z : S512x127.Idx → EReal) (k q : Fin 512) :
    concatenate S512x640 1 [⟨S512x512, x⟩, ⟨S512x1, y⟩, ⟨S512x127, z⟩] concatenates_S512x512_S512x1_S512x127_S512x640_d1
      (ix2 k ⟨q.val, by omega⟩) = x (ix2 k q) :=
  concatenate_apply_piece (t := S512x640) 1 [⟨S512x512, x⟩, ⟨S512x1, y⟩, ⟨S512x127, z⟩] _ (ix2 k ⟨q.val, by omega⟩) 0 (Nat.succ_pos _) S512x512 x rfl rfl 0
    rfl (ix2 k q) (fun b hb => by
      fin_cases b
      · rfl
      · exact absurd rfl hb) (Nat.zero_add _)

/-- Three arrays side by side, at the second's one column. -/
theorem joined_second (x : S512x512.Idx → EReal) (y : S512x1.Idx → EReal) (z : S512x127.Idx → EReal) (k : Fin 512) :
    concatenate S512x640 1 [⟨S512x512, x⟩, ⟨S512x1, y⟩, ⟨S512x127, z⟩] concatenates_S512x512_S512x1_S512x127_S512x640_d1
      (ix2 k 512) = y (ix2 k 0) :=
  concatenate_apply_piece (t := S512x640) 1 [⟨S512x512, x⟩, ⟨S512x1, y⟩, ⟨S512x127, z⟩] _ (ix2 k 512) 1 (Nat.succ_lt_succ (Nat.succ_pos _)) S512x1 y rfl rfl 512
    rfl (ix2 k 0) (fun b hb => by
      fin_cases b
      · rfl
      · exact absurd rfl hb) rfl

/-- Three vectors end to end, at an element of the first. -/
theorem ends_first (x : S512.Idx → EReal) (y : S1.Idx → EReal) (z : S127.Idx → EReal) (q : Fin 512) :
    concatenate S640 0 [⟨S512, x⟩, ⟨S1, y⟩, ⟨S127, z⟩] concatenates_S512_S1_S127_S640_d0 (ix1 ⟨q.val, by omega⟩) = x (ix1 q) :=
  concatenate_apply_piece (t := S640) 0 [⟨S512, x⟩, ⟨S1, y⟩, ⟨S127, z⟩] _ (ix1 ⟨q.val, by omega⟩) 0 (Nat.succ_pos _) S512 x rfl rfl 0
    rfl (ix1 q) (fun b hb => by fin_cases b; exact absurd rfl hb) (Nat.zero_add _)

/-- Three vectors end to end, at the second's one element. -/
theorem ends_second (x : S512.Idx → EReal) (y : S1.Idx → EReal) (z : S127.Idx → EReal) :
    concatenate S640 0 [⟨S512, x⟩, ⟨S1, y⟩, ⟨S127, z⟩] concatenates_S512_S1_S127_S640_d0 (ix1 512) = y (ix1 0) :=
  concatenate_apply_piece (t := S640) 0 [⟨S512, x⟩, ⟨S1, y⟩, ⟨S127, z⟩] _ (ix1 512) 1 (Nat.succ_lt_succ (Nat.succ_pos _)) S1 y rfl rfl 512
    rfl (ix1 0) (fun b hb => by fin_cases b; exact absurd rfl hb) rfl

/-- The first 512 joined columns are the message weights. -/
theorem entry_weights_msg (k : Fin 512) (q : Fin 512) :
    (entryAt m c main_v6 : Vec Ideal S512x640 .bf16) (ix2 k ⟨q.val, by omega⟩) = (arrays m c).msgW (ix2 k q) := by
  rw [entry_weights, ValueIdx.truncf_apply]
  exact joined_first _ _ _ k q

/-- The joined column 512 is the gate weights. -/
theorem entry_weights_gate (k : Fin 512) :
    (entryAt m c main_v6 : Vec Ideal S512x640 .bf16) (ix2 k 512) = (arrays m c).gateW (ix2 k 0) := by
  rw [entry_weights, ValueIdx.truncf_apply]
  exact joined_second _ _ _ k

/-- The first 512 joined biases are the message bias. -/
theorem entry_biases_msg (q : Fin 512) :
    (entryAt m c main_v9 : Vec Ideal S1x640 .f32) (ix2 0 ⟨q.val, by omega⟩) = (arrays m c).msgB (ix1 q) := by
  rw [entry_biases, broadcastInDim_apply _ _ _ _ (ix1 (n0 := 640) ⟨q.val, by omega⟩) (fun a => by fin_cases a; rfl)]
  exact ends_first _ _ _ q

/-- The joined bias 512 is the gate bias. -/
theorem entry_biases_gate :
    (entryAt m c main_v9 : Vec Ideal S1x640 .f32) (ix2 0 512) = (arrays m c).gateB (ix1 0) := by
  rw [entry_biases, broadcastInDim_apply _ _ _ _ (ix1 (n0 := 640) 512) (fun a => by fin_cases a; rfl)]
  exact ends_second _ _ _

/-! ## What a row adds -/

/-- What padded row `p` adds to segment `r` at column `q` of the messages: nothing behind the rows. -/
def addsMsg (r : ℕ) (q : Fin 512) (p : ℕ) : EReal :=
  if h : p < 100000 then if (arrays m c).seg ⟨p, h⟩ = r then (arrays m c).msg ⟨p, h⟩ q * Ideal.exp ((arrays m c).gate ⟨p, h⟩) else 0 else 0

/-- What padded row `p` adds to segment `r` of the exponentials. -/
def addsMass (r : ℕ) (p : ℕ) : EReal :=
  if h : p < 100000 then if (arrays m c).seg ⟨p, h⟩ = r then Ideal.exp ((arrays m c).gate ⟨p, h⟩) else 0 else 0

section Point

variable (t : Fin (cfg0 (F := Ideal)).N)

/-- The product of a block row with the gate weights, and the gate bias. -/
theorem block_gate (j : Fin 1024) (h : t.val * 1024 + j.val < 100000) :
    (∑ k : Fin 512, feats m c t (ix2 j k) * weights m c t (ix2 k 512) + biases m c t (ix2 0 512) : EReal)
      = (arrays m c).gate ⟨t.val * 1024 + j.val, h⟩ :=
  have ht := point_lt t
  congrArg₂ (· + ·) (Finset.sum_congr rfl fun k _ => congrArg₂ (· * ·)
      ((feats_apply m c t j k).trans (entry_feats_apply m c ⟨t.val * 1024 + j.val, by omega⟩ h k))
      ((weights_apply m c t k 512).trans (entry_weights_gate m c k)))
    ((biases_apply m c t 512).trans (entry_biases_gate m c))

/-- The product of a block row with the message weights, and the message bias. -/
theorem block_msg (j : Fin 1024) (h : t.val * 1024 + j.val < 100000) (q : Fin 512) :
    (∑ k : Fin 512, feats m c t (ix2 j k) * weights m c t (ix2 k ⟨q.val, by omega⟩) + biases m c t (ix2 0 ⟨q.val, by omega⟩) : EReal)
      = (arrays m c).msg ⟨t.val * 1024 + j.val, h⟩ q :=
  have ht := point_lt t
  congrArg₂ (· + ·) (Finset.sum_congr rfl fun k _ => congrArg₂ (· * ·)
      ((feats_apply m c t j k).trans (entry_feats_apply m c ⟨t.val * 1024 + j.val, by omega⟩ h k))
      ((weights_apply m c t k ⟨q.val, by omega⟩).trans (entry_weights_msg m c k q)))
    ((biases_apply m c t ⟨q.val, by omega⟩).trans (entry_biases_msg m c q))

/-- A block row at a message column. -/
theorem row_msg (r : ℕ) (hr : r < 10000) (q : Fin 512) (j : Fin 1024) :
    (if (rows m c t (ix3 0 0 j) : BitVec 32).toNat = r then k0_pay5 (F := Ideal) (feats m c t) (weights m c t) (biases m c t) (ix2 j ⟨q.val, by omega⟩)
      else (0 : EReal)) = addsMsg m c r q (t.val * 1024 + j.val) := by
  have ht := point_lt t
  rw [rows_apply m c t j, entry_rows_apply m c _ j]
  unfold padSeg addsMsg
  by_cases h : t.val * 1024 + j.val < 100000
  · rw [dif_pos h, dif_pos h]
    refine if_congr Iff.rfl ?_ rfl
    exact (pay5_message _ _ _ j ⟨q.val, by omega⟩ q.isLt).trans (congrArg₂ (· * ·) (block_msg m c t j h q) (congrArg Ideal.exp (block_gate m c t j h)))
  · rw [dif_neg h, dif_neg h, if_neg]
    show ¬ (10000 : ℕ) = r
    omega

/-- A block row at the column of the exponentials. -/
theorem row_mass (r : ℕ) (hr : r < 10000) (j : Fin 1024) :
    (if (rows m c t (ix3 0 0 j) : BitVec 32).toNat = r then k0_pay5 (F := Ideal) (feats m c t) (weights m c t) (biases m c t) (ix2 j 512)
      else (0 : EReal)) = addsMass m c r (t.val * 1024 + j.val) := by
  have ht := point_lt t
  rw [rows_apply m c t j, entry_rows_apply m c _ j]
  unfold padSeg addsMass
  by_cases h : t.val * 1024 + j.val < 100000
  · rw [dif_pos h, dif_pos h]
    refine if_congr Iff.rfl ?_ rfl
    exact (pay5_weight _ _ _ j).trans (congrArg Ideal.exp (block_gate m c t j h))
  · rw [dif_neg h, dif_neg h, if_neg]
    show ¬ (10000 : ℕ) = r
    omega

end Point

/-! ## The sum over the points -/

/-- A prefix of the rows and the next block are the longer prefix. -/
theorem sum_block (f : ℕ → EReal) (n : ℕ) :
    ∑ p ∈ Finset.range (n * 1024), f p + ∑ j : Fin 1024, f (n * 1024 + j.val) = ∑ p ∈ Finset.range ((n + 1) * 1024), f p := by
  rw [Fin.sum_univ_eq_sum_range (fun j => f (n * 1024 + j)) 1024, ← Finset.sum_range_add, Nat.succ_mul]

variable (hseg : ∀ j, ((m ((c : Thread nD τ).loc main_arg1) : Vec Ideal S100000 .i32) j).toNat < 10000)

include hseg in
/-- One point's pass adds its block of rows to a message cell. -/
theorem pass_msg (t : Fin (cfg0 (F := Ideal)).N) (X : Acc Ideal) (r : Fin 10128) (hr : r.val < 10000) (q : Fin 512) :
    pass (F := Ideal) (rows m c t) (feats m c t) (weights m c t) (biases m c t) X (ix2 r ⟨q.val, by omega⟩)
      = X (ix2 r ⟨q.val, by omega⟩) + ∑ j : Fin 1024, addsMsg m c r.val q (t.val * 1024 + j.val) := by
  rw [pass_apply _ (rows_le m c hseg t)]
  exact congrArg (_ + ·) (Finset.sum_congr rfl fun j _ => row_msg m c t r.val hr q j)

include hseg in
/-- One point's pass adds its block of rows to a cell of the exponentials. -/
theorem pass_mass (t : Fin (cfg0 (F := Ideal)).N) (X : Acc Ideal) (r : Fin 10128) (hr : r.val < 10000) :
    pass (F := Ideal) (rows m c t) (feats m c t) (weights m c t) (biases m c t) X (ix2 r 512)
      = X (ix2 r 512) + ∑ j : Fin 1024, addsMass m c r.val (t.val * 1024 + j.val) := by
  rw [pass_apply _ (rows_le m c hseg t)]
  exact congrArg (_ + ·) (Finset.sum_congr rfl fun j _ => row_mass m c t r.val hr j)

/-- The body's last-point test is that the point is the last. -/
theorem isLast_iff (t : Fin (cfg0 (F := Ideal)).N) : isLast (grid0.coords t) ↔ t.val = 97 := by
  have h : (grid0.coords t 0).val = t.val := coords_val (F := Ideal) t
  have ht := point_lt t
  unfold isLast
  rw [h]
  generalize t.val = n at ht
  revert n
  decide

/-- The body's first-point test is that the point is the first. -/
theorem isFirst_iff (t : Fin (cfg0 (F := Ideal)).N) : isFirst (grid0.coords t) ↔ t.val = 0 := by
  have h : (grid0.coords t 0).val = t.val := coords_val (F := Ideal) t
  have ht := point_lt t
  unfold isFirst
  rw [h]
  generalize t.val = n at ht
  revert n
  decide

/-- The accumulator the last point divides, and every earlier point leaves. -/
def sums : ℕ → Acc Ideal
  | 0 => pass (F := Ideal) (rows m c ⟨0, by rw [show (cfg0 (F := Ideal)).N = 98 from N_0]; omega⟩)
      (feats m c ⟨0, by rw [show (cfg0 (F := Ideal)).N = 98 from N_0]; omega⟩) (weights m c ⟨0, by rw [show (cfg0 (F := Ideal)).N = 98 from N_0]; omega⟩)
      (biases m c ⟨0, by rw [show (cfg0 (F := Ideal)).N = 98 from N_0]; omega⟩) k0_pay4
  | n + 1 => if h : n + 1 < (cfg0 (F := Ideal)).N then
      pass (F := Ideal) (rows m c ⟨n + 1, h⟩) (feats m c ⟨n + 1, h⟩) (weights m c ⟨n + 1, h⟩) (biases m c ⟨n + 1, h⟩) (sums n) else sums n

/-- Before the last point the accumulator holds the sums. -/
theorem accAfter_sums : ∀ n : ℕ, n < 97 → accAfter (F := Ideal) m c n = sums m c n
  | 0, _ => by
    unfold accAfter sums stepAt step
    rw [if_neg (fun h => absurd ((isLast_iff _).1 h) (by show ¬ 0 = 97; omega)), if_pos ((isFirst_iff _).2 rfl)]
  | n + 1, hn => by
    have hN : n + 1 < (cfg0 (F := Ideal)).N := by rw [show (cfg0 (F := Ideal)).N = 98 from N_0]; omega
    unfold accAfter sums
    rw [dif_pos hN, dif_pos hN, accAfter_sums n (by omega)]
    unfold stepAt step
    rw [if_neg (fun h => absurd ((isLast_iff _).1 h) (by show ¬ n + 1 = 97; omega)),
      if_neg (fun h => absurd ((isFirst_iff _).1 h) (by show ¬ n + 1 = 0; omega))]

/-- At the last point the accumulator holds the sums, divided. -/
theorem accAfter_last : accAfter (F := Ideal) m c 97 = norm (F := Ideal) (sums m c 97) := by
  have hN : 96 + 1 < (cfg0 (F := Ideal)).N := by rw [show (cfg0 (F := Ideal)).N = 98 from N_0]; omega
  show accAfter (F := Ideal) m c (96 + 1) = norm (F := Ideal) (sums m c (96 + 1))
  unfold accAfter sums
  rw [dif_pos hN, dif_pos hN, accAfter_sums m c 96 (by omega)]
  unfold stepAt step
  rw [if_pos ((isLast_iff _).2 rfl), if_neg (fun h => absurd ((isFirst_iff _).1 h) (by show ¬ 96 + 1 = 0; omega))]

include hseg in
/-- The sums after a point, at a message cell. -/
theorem sums_msg (r : Fin 10128) (hr : r.val < 10000) (q : Fin 512) : ∀ n : ℕ, n < 98 →
    sums m c n (ix2 r ⟨q.val, by omega⟩) = ∑ p ∈ Finset.range ((n + 1) * 1024), addsMsg m c r.val q p
  | 0, _ => by
    unfold sums
    rw [pass_msg m c hseg _ _ r hr q, ← sum_block (addsMsg m c r.val q) 0]
    refine congrArg (· + _) ?_
    show k0_pay4 (F := Ideal) (ix2 r ⟨q.val, by omega⟩) = _
    pointwise [k0_pay4]
    simp
  | n + 1, hn => by
    have hN : n + 1 < (cfg0 (F := Ideal)).N := by rw [show (cfg0 (F := Ideal)).N = 98 from N_0]; omega
    unfold sums
    rw [dif_pos hN, pass_msg m c hseg _ _ r hr q, sums_msg r hr q n (by omega), ← sum_block (addsMsg m c r.val q) (n + 1)]

include hseg in
/-- The sums after a point, at a cell of the exponentials. -/
theorem sums_mass (r : Fin 10128) (hr : r.val < 10000) : ∀ n : ℕ, n < 98 →
    sums m c n (ix2 r 512) = ∑ p ∈ Finset.range ((n + 1) * 1024), addsMass m c r.val p
  | 0, _ => by
    unfold sums
    rw [pass_mass m c hseg _ _ r hr, ← sum_block (addsMass m c r.val) 0]
    refine congrArg (· + _) ?_
    show k0_pay4 (F := Ideal) (ix2 r 512) = _
    pointwise [k0_pay4]
    simp
  | n + 1, hn => by
    have hN : n + 1 < (cfg0 (F := Ideal)).N := by rw [show (cfg0 (F := Ideal)).N = 98 from N_0]; omega
    unfold sums
    rw [dif_pos hN, pass_mass m c hseg _ _ r hr, sums_mass r hr n (by omega), ← sum_block (addsMass m c r.val) (n + 1)]

/-- A sum over the padded rows of what vanishes behind the rows is the sum over the rows. -/
theorem sum_rows (f : ℕ → EReal) (hf : ∀ p, 100000 ≤ p → f p = 0) :
    ∑ p ∈ Finset.range 100352, f p = ∑ p : Fin 100000, f p.val := by
  rw [Fin.sum_univ_eq_sum_range f 100000]
  symm
  refine Finset.sum_subset (Finset.range_subset_range.2 (by omega)) fun p _ hp => hf p ?_
  have := mt Finset.mem_range.2 hp
  omega

include hseg in
/-- The accumulator's message cells end as the pooled values. -/
theorem acc_pooled (r : Fin 10128) (hr : r.val < 10000) (q : Fin 512) :
    accAfter (F := Ideal) m c 97 (ix2 r ⟨q.val, by omega⟩) = (arrays m c).pooled r.val q := by
  rw [accAfter_last, norm_apply, sums_msg m c hseg r hr q 97 (by omega), sums_mass m c hseg r hr 97 (by omega)]
  rw [show (97 + 1) * 1024 = 100352 by norm_num]
  rw [sum_rows (addsMsg m c r.val q) fun p hp => by unfold addsMsg; rw [dif_neg (by omega)],
    sum_rows (addsMass m c r.val) fun p hp => by unfold addsMass; rw [dif_neg (by omega)]]
  have e1 : ∑ p : Fin 100000, addsMsg m c r.val q p.val = (arrays m c).weighted r.val q := by
    unfold Arrays.weighted
    exact Finset.sum_congr rfl fun p _ => by unfold addsMsg; rw [dif_pos p.isLt]
  have e2 : ∑ p : Fin 100000, addsMass m c r.val p.val = (arrays m c).mass r.val := by
    unfold Arrays.mass
    exact Finset.sum_congr rfl fun p _ => by unfold addsMass; rw [dif_pos p.isLt]
  rw [e1, e2]
  rfl

end Cert.Proof.KI

end
-- ==== Proof.KI.Result.lean ====
/-
  The kernel's result buffer: the pooled values.
-/
module

public import proofs.«01_k».proof.Proof.KI.Total

@[expose] public section

set_option maxRecDepth 16384

noncomputable section

namespace Cert.Proof.KI

open Cert.KernelIdeal Cert.KernelIdeal.Gen Cert.Proof.Words Cert.Proof.Spec
open Idealize.ShloMosaic Idealize.ShloMosaic.TcCoe
open Idealize.ShloMosaic.Pipeline (Dat)

variable (m : (ℓ : Loc nD τ sig) → Buf (Elt Ideal) ℓ) (c : Dev nD)

/-- The last point. -/
def lastPoint : Fin (cfg0 (F := Ideal)).N := ⟨97, by rw [show (cfg0 (F := Ideal)).N = 98 from N_0]; omega⟩

/-- The accumulator is written back at the last point alone. -/
theorem flush_last (t : Fin (cfg0 (F := Ideal)).N) : ((cfg0 (F := Ideal)).win 4).flush t = true ↔ t = lastPoint := by
  refine (flush0_4 (F := Ideal) t).trans ?_
  have ht := point_lt t
  constructor
  · intro h
    exact Fin.ext (show t.val = 97 by omega)
  · rintro rfl
    rfl

/-- The accumulator's array ends as the accumulator after the last point. -/
theorem array_last (r : Fin 10128) (q : Fin 640) :
    ((dats m 0 c).arrAt 4 (cfg0 (F := Ideal)).N : Vec Ideal S10128x640 .f32) (ix2 r q) = accAfter (F := Ideal) m c 97 (ix2 r q) := by
  have hdisj : ∀ t t' : Fin (cfg0 (F := Ideal)).N, ((cfg0 (F := Ideal)).win 4).flush t = true → ((cfg0 (F := Ideal)).win 4).flush t' = true →
      t ≠ t' → Disjoint (((cfg0 (F := Ideal)).win 4).blk t).view.set (((cfg0 (F := Ideal)).win 4).blk t').view.set :=
    fun t t' h h' hne => absurd (((flush_last t).1 h).trans ((flush_last t').1 h').symm) hne
  have h := (dats m 0 c).arrAt_emb_eq_flushed 4 hdisj lastPoint ((flush_last _).2 rfl) (ix2 r q)
  have hi : (((cfg0 (F := Ideal)).win 4).blk lastPoint).view.emb (ix2 r q) = (ix2 r q : S10128x640.Idx) := by
    funext a
    refine Fin.ext ((Pipeline.Window.rect_emb_val ((cfg0 (F := Ideal)).win 4) lastPoint _ a rfl).trans ?_)
    fin_cases a
    · show 0 * 10128 + r.val = r.val
      omega
    · show 0 * 640 + q.val = q.val
      omega
  rw [hi] at h
  refine h.trans ?_
  show (dats m 0 c).after 4 lastPoint (ix2 r q) = _
  rw [after_4]
  rfl

variable (hseg : ∀ j, ((m ((c : Thread nD τ).loc main_arg1) : Vec Ideal S100000 .i32) j).toNat < 10000)

include hseg in
/-- **The kernel's result is the pooled value.** -/
theorem result_pooled (r : Fin 10000) (q : Fin 512) :
    (Pipeline.afterTail₀ (cfgs (F := Ideal)) (dats m) 0 (entry m) behind c main_v11 : Vec Ideal S10000x512 .f32) (ix2 r q)
      = (arrays m c).pooled r.val q := by
  unfold Pipeline.afterTail₀
  have e : ∀ V : Valuation τ sig (Elt Ideal), (StableHlo.after (List.flatten (behind (F := Ideal))) V (Proc.devRef .tc main_v11) : Vec Ideal S10000x512 .f32) (ix2 r q)
      = (V (Proc.devRef .tc main_v10) : Vec Ideal S10128x640 .f32) (ix2 ⟨r.val, by omega⟩ ⟨q.val, by omega⟩) := fun V => by
    simp only [List.flatten_cons, List.flatten_nil, List.append_nil]
    unfold hostOps1
    after_reads_simp
    exact extractStridedSlice_apply _ _ _ _ _ fun a => by fin_cases a <;> exact (Nat.zero_add _).symm
  refine (e _).trans ?_
  have w := Pipeline.withArrays_arr (Val := Elt Ideal) (τ := τ) spec0 (by decide) c (entry m c) (fun w => (dats m 0 c).arrAt w (cfg0 (F := Ideal)).N) 4
  refine (congrFun w _).trans ?_
  exact (array_last m c _ _).trans (acc_pooled m c hseg ⟨r.val, by omega⟩ r.isLt q)

end Cert.Proof.KI

end
-- ==== Proof.RI.Moves.lean ====
/-
  Taking rows of a column by row numbers, and adding rows of a matrix into the rows their numbers name, read at an index.
-/
module

public import proofs.«01_k».proof.Proof.Gen.ReferenceIdeal.Read
public import Idealize.ShloMosaic.Lib.Routing.OpsPair
public import Idealize.ShloMosaic.Lib.Pointwise

@[expose] public section

noncomputable section

namespace Cert.Proof.RI

open Cert.ReferenceIdeal Cert.ReferenceIdeal.Gen Idealize.ShloMosaic
open scoped BigOperators

/-- A word below 2³¹ read signed is the number it is read unsigned. -/
theorem toInt_of_small (w : BitVec 32) (h : w.toNat < 10000) : w.toInt = (w.toNat : ℤ) := by
  rw [BitVec.toInt_eq_toNat_cond, if_pos (by omega)]

section Scatter

variable {S N C : ℕ} (d : ScatterDims ⟨2, ![S, C]⟩ ⟨2, ![N, 1]⟩ ⟨2, ![N, C]⟩)

/-- Where the entry of an update lands: in the row its number names, in its own column. -/
theorem lands_row (huw : d.updateWindowDims = [1]) (hiw : d.insertedWindowDims = [0]) (hsd : d.scatterDimsToOperandDims = [0])
    (hiv : d.indexVectorDim = 1) (idx : IVec ⟨2, ![N, 1]⟩ 32) (p : Fin N) (l : Fin C) (r : Fin S) (q : Fin C)
    (hidx : (idx (ix2 p 0)).toNat < 10000) :
    d.resultIdx? (ix2 p l) idx = some (ix2 r q) ↔ (idx (ix2 p 0)).toNat = r.val ∧ l = q := by
  obtain ⟨uw, iw, sd, iv, wf⟩ := d
  simp only at huw hiw hsd hiv
  subst huw hiw hsd hiv
  have hs0 : (ScatterDims.mk [1] [0] [0] 1 wf).start (ix2 p l) idx 0 = ((idx (ix2 p 0)).toNat : ℤ) := by
    unfold ScatterDims.start
    rw [dif_pos (List.mem_singleton.2 rfl), ← toInt_of_small _ hidx]
    refine congrArg (fun i => (idx i).toInt) (funext fun b => ?_)
    match b with
    | ⟨0, _⟩ => rfl
    | ⟨1, _⟩ => rfl
  have hs1 : (ScatterDims.mk [1] [0] [0] 1 wf).start (ix2 p l) idx 1 = 0 := by
    unfold ScatterDims.start
    rw [dif_neg (fun h => absurd (List.mem_singleton.1 h) (by decide : (1 : Fin 2) ≠ 0))]
  have hw0 : (ScatterDims.mk [1] [0] [0] 1 wf).window (ix2 p l) 0 = 0 := by
    unfold ScatterDims.window
    rw [dif_neg fun h => (of_decide_eq_true (List.mem_filter.1 h).2) (List.mem_singleton.2 rfl)]
  have hw1 : (ScatterDims.mk [1] [0] [0] 1 wf).window (ix2 p l) 1 = l.val := by
    unfold ScatterDims.window
    rw [dif_pos (show (1 : Fin 2) ∈ (ScatterDims.mk [1] [0] [0] 1 wf).sKept from List.mem_singleton.2 rfl)]
    rfl
  rw [Fin.ext_iff, Routing.resultIdx?_eq_some]
  constructor
  · intro h
    have h0 : _ = ((r.val : ℕ) : ℤ) := h 0
    have h1 : _ = ((q.val : ℕ) : ℤ) := h 1
    rw [hs0, hw0] at h0
    rw [hs1, hw1] at h1
    omega
  · rintro ⟨h0, h1⟩ a
    match a with
    | ⟨0, _⟩ =>
      refine (congrArg₂ (fun (x : ℤ) (y : ℕ) => x + (y : ℤ)) hs0 hw0).trans ?_
      show _ = ((r.val : ℕ) : ℤ)
      omega
    | ⟨1, _⟩ =>
      refine (congrArg₂ (fun (x : ℤ) (y : ℕ) => x + (y : ℤ)) hs1 hw1).trans ?_
      show _ = ((q.val : ℕ) : ℤ)
      omega

/-- Rows added into the rows their numbers name: the old entry plus the entries of the rows that name it. -/
theorem scatterAdd_rows (huw : d.updateWindowDims = [1]) (hiw : d.insertedWindowDims = [0]) (hsd : d.scatterDimsToOperandDims = [0])
    (hiv : d.indexVectorDim = 1) (x : (⟨2, ![S, C]⟩ : Shape).Idx → EReal) (idx : IVec ⟨2, ![N, 1]⟩ 32)
    (upd : (⟨2, ![N, C]⟩ : Shape).Idx → EReal) (r : Fin S) (q : Fin C) (hidx : ∀ p, (idx (ix2 p 0)).toNat < 10000) :
    Ideal.hostScatterAdd d x idx upd (ix2 r q)
      = x (ix2 r q) + ∑ p : Fin N, if (idx (ix2 p 0)).toNat = r.val then upd (ix2 p q) else 0 := by
  unfold Ideal.hostScatterAdd
  rw [Finset.sum_filter, sum_idx2]
  refine congrArg (x (ix2 r q) + ·) (Finset.sum_congr rfl fun p _ => ?_)
  rw [Finset.sum_eq_single q]
  · exact if_congr ((lands_row d huw hiw hsd hiv idx p q r q (hidx p)).trans (and_iff_left rfl)) rfl rfl
  · intro l _ hl
    rw [if_neg fun h => hl ((lands_row d huw hiw hsd hiv idx p l r q (hidx p)).1 h).2]
  · exact fun h => absurd (Finset.mem_univ q) h

/-- The same of the host's own addition of rows. -/
theorem hostScatter_rows (huw : d.updateWindowDims = [1]) (hiw : d.insertedWindowDims = [0]) (hsd : d.scatterDimsToOperandDims = [0])
    (hiv : d.indexVectorDim = 1) (x : FVec Ideal ⟨2, ![S, C]⟩ .f32) (idx : IVec ⟨2, ![N, 1]⟩ 32)
    (upd : FVec Ideal ⟨2, ![N, C]⟩ .f32) (r : Fin S) (q : Fin C) (hidx : ∀ p, (idx (ix2 p 0)).toNat < 10000) :
    (Host.scatterAdd d x idx upd (ix2 r q) : EReal)
      = (x (ix2 r q) : EReal) + ∑ p : Fin N, if (idx (ix2 p 0)).toNat = r.val then (upd (ix2 p q) : EReal) else 0 :=
  scatterAdd_rows d huw hiw hsd hiv x idx upd r q hidx

end Scatter

/-- A column's rows taken by row numbers: the entry of the row the number names. -/
theorem gather_rows (x : S10000x1.Idx → EReal) (idx : IVec S100000x1 32) (p : Fin 100000) (hidx : (idx (ix2 p 0)).toNat < 10000) :
    Host.gather gather_S10000x1_S100000x1_S100000x1_1_0_n_n_0_1_11 x idx (ix2 p 0)
      = x (ix2 ⟨(idx (ix2 p 0)).toNat, hidx⟩ 0) := by
  unfold Host.gather
  refine congrArg x (funext fun a => Fin.ext ?_)
  show GatherDims.start _ _ _ a + GatherDims.batchCoord _ _ a + GatherDims.offCoord _ _ a = _
  obtain rfl | rfl : a = 1 ∨ a = 0 := by
    match a with
    | ⟨0, _⟩ => exact Or.inr rfl
    | ⟨1, _⟩ => exact Or.inl rfl
  · exact Nat.lt_one_iff.1 (GatherDims.operandIdx gather_S10000x1_S100000x1_S100000x1_1_0_n_n_0_1_11 (ix2 p 0) idx 1).isLt
  · rw [GatherDims.batchCoord_eq_zero _ _ _ (fun h => absurd h (List.not_mem_nil)),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x1_S100000x1_S100000x1_1_0_n_n_0_1_11.startIndexMap from List.mem_singleton.mpr rfl)]
    have hsi : gather_S10000x1_S100000x1_S100000x1_1_0_n_n_0_1_11.siIdx (ix2 p 0)
        ⟨List.idxOf (0 : Fin 2) gather_S10000x1_S100000x1_S100000x1_1_0_n_n_0_1_11.startIndexMap,
          List.idxOf_lt_length_iff.2 (List.mem_singleton.mpr rfl)⟩ = ix2 p 0 := by
      funext b
      match b with
      | ⟨0, _⟩ => rfl
      | ⟨1, _⟩ => rfl
    rw [hsi, toInt_of_small _ hidx]
    show min _ (10000 - 1) = _
    rw [Int.toNat_natCast]
    exact min_eq_left (by omega)

end Cert.Proof.RI

end
-- ==== Proof.RI.Steps.lean ====
/-
  The reference's steps read at an index: its gates and messages, the shift of a segment, the shifted exponentials and
  their sums, the weights and the pooled rows.
-/
module

public import proofs.«01_k».proof.Proof.RI.Moves
public import proofs.«01_k».proof.Proof.Spec

@[expose] public section

set_option maxRecDepth 16384

noncomputable section

namespace Cert.Proof.RI

open Cert.ReferenceIdeal Cert.ReferenceIdeal.Gen Cert.ReferenceIdeal.Read Cert.Proof.Spec Idealize.ShloMosaic
open scoped BigOperators

variable (A : Arrays)

/-- The reference's gates are the gates. -/
theorem gate_apply (p : Fin 100000) :
    val_main_v3 (F := Ideal) A.fea A.gateW A.gateB (ix2 p 0) = A.gate p := by
  pointwise [val_main_v3, val_main_v0, val_main_v2, val_main_v1]
  rfl

/-- The reference's messages are the messages. -/
theorem msg_apply (p : Fin 100000) (q : Fin 512) :
    val_main_v42 (F := Ideal) A.fea A.msgW A.msgB (ix2 p q) = A.msg p q := by
  pointwise [val_main_v42, val_main_v39, val_main_v41, val_main_v40]
  rfl

/-- The row numbers of the two additions are the segments. -/
theorem rows_apply (p : Fin 100000) : val_main_v24 (F := Ideal) A.index (ix2 p 0) = A.index (ix1 p) := by
  pointwise [val_main_v24]

theorem rows_apply' (p : Fin 100000) : val_main_v46 (F := Ideal) A.index (ix2 p 0) = A.index (ix1 p) := by
  pointwise [val_main_v46]

/-- A segment number that is not negative is kept as it is when a row is taken by it. -/
theorem take_apply (p : Fin 100000) (h : A.seg p < 10000) : val_main_v19 (F := Ideal) A.index (ix2 p 0) = A.index (ix1 p) := by
  pointwise [val_main_v19, val_main_v18, val_main_v15, val_main_v14, val_main_c, val_main_v17]
  exact Routing.wrap_of_lt _ _ (lt_trans h (by norm_num))

theorem take_apply' (p : Fin 100000) (h : A.seg p < 10000) : val_main_v36 (F := Ideal) A.index (ix2 p 0) = A.index (ix1 p) := by
  pointwise [val_main_v36, val_main_v35, val_main_v32, val_main_v31, val_main_c_6, val_main_v34]
  exact Routing.wrap_of_lt _ _ (lt_trans h (by norm_num))

/-- The reference's shift of a segment. -/
def shift (r : Fin 10000) : EReal := val_main_v13 (F := Ideal) A.fea A.index A.gateW A.gateB (ix2 r 0)

/-- The largest gate of a segment: the least extended real where no row names it. -/
def largest (r : Fin 10000) : EReal :=
  Finset.univ.fold max (⊥ : EReal) fun p : Fin 100000 => if A.seg p = r.val then A.gate p else ⊥

/-- Choosing by a comparison of two words. -/
theorem choose_eq (x y : BitVec 32) (a b : EReal) : Scalar.select (IntOp.cmpi CmpIPredicate.eq x y) a b = if x = y then a else b := by
  show (if (BitVec.ofBool (x == y)) = 1#1 then a else b) = _
  by_cases h : x = y
  · rw [if_pos h, show (x == y) = true by simpa using h]
    rfl
  · rw [if_neg h, show (x == y) = false by simpa using h]
    rfl

/-- One entry of the masked table: the gate of the row where the row is of the segment, the least extended real elsewhere. -/
theorem masked_apply (p : Fin 100000) (r : Fin 10000) :
    (val_main_v8 (F := Ideal) A.fea A.index A.gateW A.gateB (ix2 p r) : EReal) = if A.seg p = r.val then A.gate p else ⊥ := by
  have hbot : Ideal.ofBits FTy.f32 4286578688#32 = ⊥ := by simp [Ideal.ofBits, Ideal.ieee]
  pointwise [val_main_v8, val_main_v7, val_main_v6, val_main_v5, val_main_v4, val_main_call0_v1, val_main_call0_v2,
    val_main_call0_v0, val_main_cst]
  refine (choose_eq _ _ _ _).trans (if_congr ?_ (gate_apply A p) hbot)
  unfold Arrays.seg
  rw [← BitVec.toNat_inj, BitVec.toNat_ofNat, Nat.mod_eq_of_lt (by omega)]

/-- The largest entry of each column of a table. -/
theorem columnMax (v : FVec Ideal S100000x10000 .f32) (r : Fin 10000) :
    @Eq EReal (Host.reduce (FloatOps.maximumf (F := Ideal) (φ := .f32)) v (val_main_cst_0 (F := Ideal)) reducesTo_S100000x10000_S10000_d0 h_S_ (ix1 r))
      <| Finset.univ.fold max (Ideal.ofBits FTy.f32 4286578688#32) fun p : Fin 100000 => (v (ix2 p r) : EReal) := by
  pointwise [val_main_cst_0]

/-- The reference's largest gates. -/
theorem largest_apply (r : Fin 10000) :
    (val_main_v9 (F := Ideal) A.fea A.index A.gateW A.gateB (ix1 r) : EReal) = largest A r := by
  have hbot : Ideal.ofBits FTy.f32 4286578688#32 = ⊥ := by simp [Ideal.ofBits, Ideal.ieee]
  unfold val_main_v9 largest
  refine (columnMax _ r).trans ?_
  exact congrArg₂ (fun (b : EReal) (g : Fin 100000 → EReal) => Finset.univ.fold max b g) hbot (funext fun p => masked_apply A p r)

/-- Zero where a value is the least extended real, the value itself elsewhere. -/
theorem orZero (v : FVec Ideal S10000x1 .f32) (r : Fin 10000) :
    (Scalar.select (FloatOps.cmpf .oeq (v (ix2 r 0)) (val_main_v11 (F := Ideal) (ix2 r 0))) (val_main_call1_v1 (F := Ideal) (ix2 r 0))
      (v (ix2 r 0)) : EReal) = if (v (ix2 r 0) : EReal) = ⊥ then 0 else v (ix2 r 0) := by
  have hbot : Ideal.ofBits FTy.f32 4286578688#32 = ⊥ := by simp [Ideal.ofBits, Ideal.ieee]
  have h0 : (val_main_call1_v1 (F := Ideal) (ix2 r 0) : EReal) = 0 := by
    pointwise [val_main_call1_v1, val_main_call1_v0, val_main_cst_2]
    exact Ideal.ofBits_zero_f32
  have h1 : (val_main_v11 (F := Ideal) (ix2 r 0) : EReal) = ⊥ := by
    pointwise [val_main_v11, val_main_cst_1]
    exact hbot
  rw [h0, h1]
  generalize v (ix2 r 0) = w
  show (if (BitVec.ofBool (decide ((w : EReal) = ⊥))) = 1#1 then (0 : EReal) else w) = _
  by_cases h : (w : EReal) = ⊥
  · rw [if_pos h, decide_eq_true h]
    rfl
  · rw [if_neg h, decide_eq_false h]
    rfl

/-- The shift of a segment is its largest gate, or zero where no row names it. -/
theorem shift_apply (r : Fin 10000) : shift A r = if largest A r = ⊥ then 0 else largest A r := by
  have i : idx_main_v10 (ix2 r 0) = ix1 r := by
    funext a
    match a with
    | ⟨0, _⟩ => rfl
  have h : (val_main_v10 (F := Ideal) A.fea A.index A.gateW A.gateB (ix2 r 0) : EReal) = largest A r := by
    rw [val_main_v10_apply, i, largest_apply]
  have o := orZero (val_main_v10 (F := Ideal) A.fea A.index A.gateW A.gateB) r
  rw [h] at o
  unfold shift
  rw [val_main_v13_apply, val_main_v12_apply, h]
  exact o

/-- A segment's shifted constant. -/
theorem guard_apply (r : Fin 10000) :
    (val_main_v29 (F := Ideal) A.fea A.index A.gateW A.gateB (ix2 r 0) : EReal) = eps * Ideal.exp (-shift A r) := by
  have h : (val_main_v28 (F := Ideal) (ix2 r 0) : EReal) = eps := by
    pointwise [val_main_v28, val_main_cst_5]
    rfl
  rw [val_main_v29_apply, val_main_v27_apply, val_main_v26_apply, h]
  unfold shift
  generalize val_main_v13 (F := Ideal) A.fea A.index A.gateW A.gateB (ix2 r 0) = x
  generalize eps = y
  rfl

/-- The sum of two values of the programs is their sum. -/
theorem add_eq (x y : EReal) : (FloatOps.addf (F := Ideal) (φ := .f32) x y : EReal) = x + y := rfl

section

variable (hseg : ∀ p, A.seg p < 10000)
include hseg

/-- A row's shifted exponential. -/
theorem exp_apply (p : Fin 100000) :
    val_main_v22 (F := Ideal) A.fea A.index A.gateW A.gateB (ix2 p 0) = Ideal.exp (A.gate p - shift A ⟨A.seg p, hseg p⟩) := by
  pointwise [val_main_v22, val_main_v21]
  have e := take_apply A p (hseg p)
  refine congrArg₂ (fun x y : EReal => Ideal.exp (x - y)) (gate_apply A p) ?_
  refine (gather_rows _ _ p (by rw [e]; exact hseg p)).trans ?_
  exact congrArg (fun n => val_main_v13 (F := Ideal) A.fea A.index A.gateW A.gateB (ix2 n 0)) (Fin.ext (congrArg BitVec.toNat e))

/-- A segment's divisor in the reference: the sum of its shifted exponentials and the shifted constant. -/
def divisor (r : Fin 10000) : EReal :=
  (0 + ∑ p : Fin 100000, if A.seg p = r.val then Ideal.exp (A.gate p - shift A ⟨A.seg p, hseg p⟩) else 0)
    + eps * Ideal.exp (-shift A r)

/-- A segment's sum of shifted exponentials. -/
theorem sum_apply (r : Fin 10000) :
    (val_main_v25 (F := Ideal) A.fea A.index A.gateW A.gateB (ix2 r 0) : EReal)
      = 0 + ∑ p : Fin 100000, if A.seg p = r.val then Ideal.exp (A.gate p - shift A ⟨A.seg p, hseg p⟩) else 0 := by
  have e := fun p => rows_apply A p
  have z : (val_main_v23 (F := Ideal) (ix2 r 0) : EReal) = 0 := by pointwise [val_main_v23, val_main_cst_4]
  unfold val_main_v25
  refine (hostScatter_rows _ rfl rfl rfl rfl _ _ _ r 0 fun p => by rw [e]; exact hseg p).trans ?_
  rw [z]
  refine congrArg (fun x : EReal => 0 + x) (Finset.sum_congr rfl fun p _ => ?_)
  rw [e, exp_apply A hseg]
  rfl

/-- The reference's divisors. -/
theorem divisor_apply (r : Fin 10000) :
    (val_main_v30 (F := Ideal) A.fea A.index A.gateW A.gateB (ix2 r 0) : EReal) = divisor A hseg r := by
  unfold divisor
  rw [val_main_v30_apply, sum_apply A hseg r, guard_apply A r]
  exact add_eq _ _

/-- A row's weight: its shifted exponential over its segment's divisor. -/
theorem weight_apply (p : Fin 100000) :
    val_main_v38 (F := Ideal) A.fea A.index A.gateW A.gateB (ix2 p 0)
      = Ideal.div (Ideal.exp (A.gate p - shift A ⟨A.seg p, hseg p⟩)) (divisor A hseg ⟨A.seg p, hseg p⟩) := by
  have e := take_apply' A p (hseg p)
  pointwise [val_main_v38]
  refine congrArg₂ Ideal.div (exp_apply A hseg p) ?_
  refine (gather_rows _ _ p (by rw [e]; exact hseg p)).trans ?_
  refine Eq.trans ?_ (divisor_apply A hseg ⟨A.seg p, hseg p⟩)
  exact congrArg (fun n => val_main_v30 (F := Ideal) A.fea A.index A.gateW A.gateB (ix2 n 0)) (Fin.ext (congrArg BitVec.toNat e))

/-- The reference's result: the sum of a segment's messages, each weighted. -/
theorem result_apply (r : Fin 10000) (q : Fin 512) :
    val_main_v47 (F := Ideal) A.fea A.index A.gateW A.gateB A.msgW A.msgB (ix2 r q)
      = 0 + ∑ p : Fin 100000, if A.seg p = r.val then
          Ideal.div (Ideal.exp (A.gate p - shift A ⟨A.seg p, hseg p⟩)) (divisor A hseg ⟨A.seg p, hseg p⟩) * A.msg p q else 0 := by
  have e := fun p => rows_apply' A p
  have z : (val_main_v45 (F := Ideal) (ix2 r q) : EReal) = 0 := by pointwise [val_main_v45, val_main_cst_8]
  unfold val_main_v47
  refine (hostScatter_rows _ rfl rfl rfl rfl _ _ _ r q fun p => by rw [e]; exact hseg p).trans ?_
  rw [z]
  refine congrArg (fun x : EReal => 0 + x) (Finset.sum_congr rfl fun p _ => ?_)
  have h : (val_main_v44 (F := Ideal) A.fea A.index A.gateW A.gateB A.msgW A.msgB (ix2 p q) : EReal)
      = Ideal.div (Ideal.exp (A.gate p - shift A ⟨A.seg p, hseg p⟩)) (divisor A hseg ⟨A.seg p, hseg p⟩) * A.msg p q := by
    refine (val_main_v44_apply _ _ _ _ _ _ _).trans (congrArg₂ (fun x y : EReal => x * y) ?_ (msg_apply A p q))
    refine (val_main_v43_apply _ _ _ _ _).trans (Eq.trans (congrArg _ ?_) (weight_apply A hseg p))
    funext a
    match a with
    | ⟨0, _⟩ => rfl
    | ⟨1, _⟩ => rfl
  rw [e, h]
  rfl

end

end Cert.Proof.RI

end
-- ==== Proof.RI.Value.lean ====
/-
  The reference's result is the pooled value: over finite arrays the shift of a segment cancels.
-/
module

public import proofs.«01_k».proof.Proof.RI.Steps

@[expose] public section

noncomputable section

namespace Cert.Proof.RI

open Cert.ReferenceIdeal Cert.ReferenceIdeal.Gen Cert.ReferenceIdeal.Read Cert.Proof.Spec Idealize.ShloMosaic
open scoped BigOperators

/-! ## Finite values -/

/-- The constant that keeps the divisor off zero is a positive real. -/
theorem eps_real : ∃ e : ℝ, 0 < e ∧ eps = (e : EReal) := by
  refine ⟨_, ?_, by simp [eps, Ideal.ofBits, Ideal.ieee]; rfl⟩
  positivity

/-- The sum of reals, taken among the extended reals. -/
theorem coe_sum {n : ℕ} (f : Fin n → ℝ) : ((∑ p, f p : ℝ) : EReal) = ∑ p, (f p : EReal) := by
  classical
  induction (Finset.univ : Finset (Fin n)) using Finset.induction_on with
  | empty => rw [Finset.sum_empty, Finset.sum_empty, EReal.coe_zero]
  | insert a s ha ih => rw [Finset.sum_insert ha, Finset.sum_insert ha, EReal.coe_add, ih]

/-- A sum of reals, chosen by a condition, is a real. -/
theorem sum_coe {n : ℕ} (c : Fin n → Prop) [DecidablePred c] (f : Fin n → ℝ) :
    (∑ p, if c p then (f p : EReal) else 0) = ((∑ p, if c p then f p else 0 : ℝ) : EReal) := by
  rw [coe_sum]
  refine Finset.sum_congr rfl fun p _ => ?_
  split
  · rfl
  · exact EReal.coe_zero.symm

/-- A sum of products of reals and one more real is a real. -/
theorem affine_real {n : ℕ} (x w : Fin n → EReal) (b : EReal) (hx : ∀ k, ∃ r : ℝ, x k = r) (hw : ∀ k, ∃ r : ℝ, w k = r)
    (hb : ∃ r : ℝ, b = r) : ∃ r : ℝ, (∑ k, x k * w k) + b = r := by
  choose x' hx using hx
  choose w' hw using hw
  obtain ⟨b', rfl⟩ := hb
  refine ⟨(∑ k, x' k * w' k) + b', ?_⟩
  rw [EReal.coe_add, coe_sum]
  refine congrArg (· + (b' : EReal)) (Finset.sum_congr rfl fun k _ => ?_)
  rw [hx, hw, EReal.coe_mul]

/-- The largest of values each a real or the least extended real is one of these too. -/
theorem fold_real {n : ℕ} (f : Fin n → EReal) (hf : ∀ p, f p = ⊥ ∨ ∃ r : ℝ, f p = r) (s : Finset (Fin n)) :
    s.fold max (⊥ : EReal) f = ⊥ ∨ ∃ r : ℝ, s.fold max (⊥ : EReal) f = r := by
  classical
  induction s using Finset.induction_on with
  | empty => exact Or.inl rfl
  | insert a s ha ih =>
    rw [Finset.fold_insert ha]
    rcases max_choice (f a) (s.fold max (⊥ : EReal) f) with h | h
    · rw [h]; exact hf a
    · rw [h]; exact ih

/-! ## The equation -/

variable (A : Arrays)

/-- The arrays of floats hold reals. -/
structure Finite : Prop where
  fea : ∀ j, ∃ r : ℝ, A.fea j = r
  gateW : ∀ j, ∃ r : ℝ, A.gateW j = r
  gateB : ∀ j, ∃ r : ℝ, A.gateB j = r
  msgW : ∀ j, ∃ r : ℝ, A.msgW j = r
  msgB : ∀ j, ∃ r : ℝ, A.msgB j = r

variable {A} (hfin : Finite A) (hseg : ∀ p, A.seg p < 10000)
include hfin

/-- Gates of finite arrays are reals. -/
theorem gate_real (p : Fin 100000) : ∃ r : ℝ, A.gate p = r :=
  affine_real _ _ _ (fun _ => hfin.fea _) (fun _ => hfin.gateW _) (hfin.gateB _)

/-- Messages of finite arrays are reals. -/
theorem msg_real (p : Fin 100000) (q : Fin 512) : ∃ r : ℝ, A.msg p q = r :=
  affine_real _ _ _ (fun _ => hfin.fea _) (fun _ => hfin.msgW _) (hfin.msgB _)

/-- The shift of a segment is a real. -/
theorem shift_real (r : Fin 10000) : ∃ s : ℝ, shift A r = s := by
  rw [shift_apply]
  rcases fold_real (fun p : Fin 100000 => if A.seg p = r.val then A.gate p else ⊥) (fun p => by
    show (if A.seg p = r.val then A.gate p else ⊥) = ⊥ ∨ ∃ s : ℝ, (if A.seg p = r.val then A.gate p else ⊥) = (s : EReal)
    split
    · exact Or.inr (gate_real hfin p)
    · exact Or.inl rfl) Finset.univ with h | ⟨s, h⟩
  · rw [if_pos (show largest A r = ⊥ from h)]
    exact ⟨0, EReal.coe_zero.symm⟩
  · refine ⟨s, ?_⟩
    rw [if_neg (fun e : largest A r = ⊥ => EReal.coe_ne_bot s (h.symm.trans e))]
    exact h

include hseg in
/-- **The reference's result is the pooled value.** -/
theorem result_pooled (r : Fin 10000) (q : Fin 512) :
    val_main_v47 (F := Ideal) A.fea A.index A.gateW A.gateB A.msgW A.msgB (ix2 r q) = A.pooled r.val q := by
  rw [result_apply A hseg]
  choose g hg using gate_real hfin
  choose t ht using fun p => msg_real hfin p q
  choose s hs using shift_real hfin
  obtain ⟨e, he, hee⟩ := eps_real
  have hexp : ∀ p, Ideal.exp (A.gate p - shift A ⟨A.seg p, hseg p⟩) = ((Real.exp (g p - s ⟨A.seg p, hseg p⟩) : ℝ) : EReal) := fun p => by
    rw [hg, hs, ← EReal.coe_sub, Ideal.exp_coe]
  -- the mass of a segment, in the reals
  have hE : ∀ n : ℕ, 0 ≤ ∑ p : Fin 100000, if A.seg p = n then Real.exp (g p) else 0 := fun n =>
    Finset.sum_nonneg fun p _ => by split <;> positivity
  set E : ℕ → ℝ := fun n => ∑ p : Fin 100000, if A.seg p = n then Real.exp (g p) else 0 with hEdef
  have hmass : ∀ n, A.mass n = (E n : EReal) := fun n => by
    unfold Arrays.mass
    rw [hEdef, ← sum_coe]
    refine Finset.sum_congr rfl fun p _ => ?_
    rw [hg, Ideal.exp_coe]
  have hdiv : ∀ n : Fin 10000, divisor A hseg n = ((Real.exp (-s n) * (E n.val + e) : ℝ) : EReal) := fun n => by
    unfold divisor
    rw [zero_add, hs, hee, ← EReal.coe_neg, Ideal.exp_coe, ← EReal.coe_mul]
    have h1 : (∑ p : Fin 100000, if A.seg p = n.val then Ideal.exp (A.gate p - shift A ⟨A.seg p, hseg p⟩) else 0)
        = ((Real.exp (-s n) * E n.val : ℝ) : EReal) := by
      rw [hEdef, Finset.mul_sum, coe_sum]
      refine Finset.sum_congr rfl fun p _ => ?_
      by_cases h : A.seg p = n.val
      · rw [if_pos h, if_pos h, hexp, ← Real.exp_add, show (⟨A.seg p, hseg p⟩ : Fin 10000) = n from Fin.ext h]
        ring_nf
      · rw [if_neg h, if_neg h, mul_zero, EReal.coe_zero]
    rw [h1, ← EReal.coe_add]
    ring_nf
  have hpos : ∀ n : ℕ, 0 < E n + e := fun n => by have := hE n; linarith
  have hdne : ∀ n : Fin 10000, Real.exp (-s n) * (E n.val + e) ≠ 0 := fun n => (mul_pos (Real.exp_pos _) (hpos n.val)).ne'
  have hw : A.weighted r.val q = ((∑ p : Fin 100000, if A.seg p = r.val then t p * Real.exp (g p) else 0 : ℝ) : EReal) := by
    unfold Arrays.weighted
    rw [← sum_coe]
    refine Finset.sum_congr rfl fun p _ => ?_
    rw [hg, ht, Ideal.exp_coe, EReal.coe_mul]
  unfold Arrays.pooled
  rw [hmass, hee, hw, ← EReal.coe_add, Ideal.div_coe (hpos r.val).ne', ← EReal.coe_mul, zero_add, Finset.sum_mul, coe_sum]
  refine Finset.sum_congr rfl fun p _ => ?_
  by_cases h : A.seg p = r.val
  · rw [if_pos h, if_pos h, hexp, hdiv, Ideal.div_coe (hdne _), ht, ← EReal.coe_mul, ← EReal.coe_mul,
      show (⟨A.seg p, hseg p⟩ : Fin 10000) = r from Fin.ext h]
    refine congrArg (fun x : ℝ => (x : EReal)) ?_
    have h1 := (hpos r.val).ne'
    have h2 := (Real.exp_pos (-s r)).ne'
    rw [sub_eq_add_neg, Real.exp_add]
    field_simp
  · rw [if_neg h, if_neg h, zero_mul, EReal.coe_zero]

end Cert.Proof.RI

end
-- ==== Proof.Algebraic.lean ====
/-
  The value claim: from finite arrays and segments that are segments, the kernel and the reference end with equal results.
-/
module

public import proofs.«01_k».proof.Proof.Range
public import proofs.«01_k».proof.Defs
public import proofs.«01_k».proof.Proof.KI.Result
public import proofs.«01_k».proof.Proof.RI.Value

@[expose] public section

set_option maxRecDepth 16384

noncomputable section

namespace Cert.Proof.Algebraic

open Idealize.ShloMosaic Idealize.SL.Sem Cert.Proof.Spec

/-- **The kernel computes the reference's result.** -/
theorem kernel_reference : Cert.algebraic_KernelIdeal_ReferenceIdeal_pre_finite_segments := by
  intro m g m' g' hp heq
  have hr := fun c => Range.of_finite_segments _ _ _ _ _ _ (hp c)
  refine ⟨fun c => Pipeline.afterTail₀ (Cert.KernelIdeal.cfgs (F := Ideal)) (KI.dats m) 0 (KI.entry m) KI.behind c Cert.KernelIdeal.main_v11, ?_, ?_⟩
  · refine θ_run_mono (KI.run_result (F := Ideal) m g fun c t j => KI.rows_le m c (hr c).2.1 t j) fun r h c => ?_
    have hc := (h.1 c).2
    exact ⟨(h.1 c).1, hc _ (by decide), hc _ (by decide), hc _ (by decide), hc _ (by decide), hc _ (by decide), hc _ (by decide)⟩
  · refine θ_run_mono (Cert.ReferenceIdeal.Value.run (F := Ideal) m' g') fun r h c => ⟨?_, (h c).2⟩
    rw [(h c).1, Cert.ReferenceIdeal.Read.val_main_v47_eq, (heq c).1, (heq c).2.1, (heq c).2.2.1, (heq c).2.2.2.1, (heq c).2.2.2.2.1, (heq c).2.2.2.2.2]
    obtain ⟨h0, h1, h2, h3, h4, h5⟩ := hr c
    funext j
    obtain ⟨p, q, rfl⟩ : ∃ (p : Fin 10000) (q : Fin 512), j = (ix2 p q : Cert.KernelIdeal.S10000x512.Idx) := ⟨j 0, j 1, (ix2_eta j).symm⟩
    exact (RI.result_pooled (A := KI.arrays m c) ⟨h0, h2, h3, h4, h5⟩ (fun p => h1 _) p q).trans (KI.result_pooled m c h1 p q).symm

end Cert.Proof.Algebraic

end
-- ==== Proof.lean ====
/-
  The proof of the certificate's claim: the frames of the kernel, of the kernel at the ideal numbers and of the reference, and
  that the kernel computes the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_segments
public import proofs.«01_k».proof.Proof.Gen.Pre_finite_segments
public import proofs.«01_k».proof.Proof.Frames
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_segments.Gen.facts,
  Cert.Pre_finite_segments.Gen.facts, Frames.kernel, Frames.kernelIdeal, Frames.kernelIdeal_finite, Frames.referenceIdeal,
  Frames.referenceIdeal_finite, trivial, Algebraic.kernel_reference⟩

end Cert.Proof

end
